-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs_KernelIdeal [hPre_finite_inputs_KernelIdeal : Cert.Pre_finite_inputs_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_inputs_KernelIdeal [hKernelIdeal : Cert.KernelIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_inputs_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_inputs_KernelIdeal [hKernelIdeal : Cert.KernelIdeal.Facts] [hReferenceIdeal : Cert.ReferenceIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![512, 4096]⟩ ⟨2, ![512, 16384]⟩ (Layout.meshBlock [2, 4, 4] ![[], [1]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_KernelIdeal : Cert.Pre_finite_inputs_KernelIdeal.Facts) (hPre_finite_inputs_ReferenceIdeal : Cert.Pre_finite_inputs_ReferenceIdeal.Facts),
    quiescent_Kernel (hKernel := hKernel)
    ∧ quiescent_KernelIdeal (hKernelIdeal := hKernelIdeal)
    ∧ quiescent_KernelIdeal_pre_finite_inputs_KernelIdeal (hKernelIdeal := hKernelIdeal) (hPre_finite_inputs_KernelIdeal := hPre_finite_inputs_KernelIdeal)
    ∧ quiescent_ReferenceIdeal (hReferenceIdeal := hReferenceIdeal)
    ∧ quiescent_ReferenceIdeal_pre_finite_inputs_ReferenceIdeal (hReferenceIdeal := hReferenceIdeal) (hPre_finite_inputs_ReferenceIdeal := hPre_finite_inputs_ReferenceIdeal)
    ∧ preserves_Kernel_KernelIdeal
    ∧ algebraic_KernelIdeal_ReferenceIdeal_pre_finite_inputs_KernelIdeal (hKernelIdeal := hKernelIdeal) (hReferenceIdeal := hReferenceIdeal) (hPre_finite_inputs_KernelIdeal := hPre_finite_inputs_KernelIdeal)
-- ==== Pre_finite_inputs_KernelIdeal.lean ====
abbrev S256x512 : Shape := ⟨2, ![256, 512]⟩
abbrev S512x4096 : Shape := ⟨2, ![512, 4096]⟩
abbrev S_ : Shape := ⟨0, ![]⟩

class Facts : Prop where
  bcast_S_S256x512 : S_.BroadcastsInDim S256x512 (![] : Fin 0 → Fin S256x512.rank)
  bcast_S_S512x4096 : S_.BroadcastsInDim S512x4096 (![] : Fin 0 → Fin S512x4096.rank)

variable [Facts]

def fn {F : FTy → Type} [FloatOps F] (main_arg0 : FVec F S256x512 .bf16) (main_arg1 : FVec F S512x4096 .bf16) : IVec S256x512 1 × IVec S512x4096 1 :=
  let main_v0 : FVec F S256x512 .bf16 := Host.absf main_arg0
  let main_cst : FVec F S_ .bf16 := constant S_ .bf16 0x7F80#16
  let main_v1 : FVec F S256x512 .bf16 := broadcastInDim S256x512 ![] bcast_S_S256x512 main_cst
  let main_v2 : IVec S256x512 1 := cmpf .olt main_v0 main_v1
  let main_v3 : FVec F S512x4096 .bf16 := Host.absf main_arg1
  let main_cst_0 : FVec F S_ .bf16 := constant S_ .bf16 0x7F80#16
  let main_v4 : FVec F S512x4096 .bf16 := broadcastInDim S512x4096 ![] bcast_S_S512x4096 main_cst_0
  let main_v5 : IVec S512x4096 1 := cmpf .olt main_v3 main_v4
  (main_v2, main_v5)
-- ==== Pre_finite_inputs_ReferenceIdeal.lean ====
abbrev S256x512 : Shape := ⟨2, ![256, 512]⟩
abbrev S512x16384 : Shape := ⟨2, ![512, 16384]⟩
abbrev S_ : Shape := ⟨0, ![]⟩

class Facts : Prop where
  bcast_S_S256x512 : S_.BroadcastsInDim S256x512 (![] : Fin 0 → Fin S256x512.rank)
  bcast_S_S512x16384 : S_.BroadcastsInDim S512x16384 (![] : Fin 0 → Fin S512x16384.rank)

variable [Facts]

def fn {F : FTy → Type} [FloatOps F] (main_arg0 : FVec F S256x512 .bf16) (main_arg1 : FVec F S512x16384 .bf16) : IVec S256x512 1 × IVec S512x16384 1 :=
  let main_v0 : FVec F S256x512 .bf16 := Host.absf main_arg0
  let main_cst : FVec F S_ .bf16 := constant S_ .bf16 0x7F80#16
  let main_v1 : FVec F S256x512 .bf16 := broadcastInDim S256x512 ![] bcast_S_S256x512 main_cst
  let main_v2 : IVec S256x512 1 := cmpf .olt main_v0 main_v1
  let main_v3 : FVec F S512x16384 .bf16 := Host.absf main_arg1
  let main_cst_0 : FVec F S_ .bf16 := constant S_ .bf16 0x7F80#16
  let main_v4 : FVec F S512x16384 .bf16 := broadcastInDim S512x16384 ![] bcast_S_S512x16384 main_cst_0
  let main_v5 : IVec S512x16384 1 := cmpf .olt main_v3 main_v4
  (main_v2, main_v5)
-- ==== Kernel.lean ====
abbrev S256x512 : Shape := ⟨2, ![256, 512]⟩
abbrev S512x4096 : Shape := ⟨2, ![512, 4096]⟩
abbrev S256x16384 : Shape := ⟨2, ![256, 16384]⟩
abbrev S4x256x4096 : Shape := ⟨3, ![4, 256, 4096]⟩
abbrev S4x256x2 : Shape := ⟨3, ![4, 256, 2]⟩
abbrev S4 : Shape := ⟨1, ![4]⟩
abbrev S3 : Shape := ⟨1, ![3]⟩
abbrev S_ : Shape := ⟨0, ![]⟩
abbrev S256x4096 : Shape := ⟨2, ![256, 4096]⟩
abbrev S1x256x4096 : Shape := ⟨3, ![1, 256, 4096]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x256x2 : Shape := ⟨3, ![1, 256, 2]⟩
abbrev S256x2 : Shape := ⟨2, ![256, 2]⟩
abbrev S1x64x4096 : Shape := ⟨3, ![1, 64, 4096]⟩
abbrev S64x4096 : Shape := ⟨2, ![64, 4096]⟩
abbrev S1x32x4096 : Shape := ⟨3, ![1, 32, 4096]⟩
abbrev S32x4096 : Shape := ⟨2, ![32, 4096]⟩
abbrev S4x256x1 : Shape := ⟨3, ![4, 256, 1]⟩

abbrev nBuf : Space → Nat
  | .hbm => 3
  | .vmem => 5
  | .smem => 0
  | _ => 0

abbrev bufTy : (tb : Table) → Fin (tcTables nBuf tb) → BufTy
  | .hbm, ⟨0, _⟩ => ⟨S256x512, .bf16⟩
  | .hbm, ⟨1, _⟩ => ⟨S512x4096, .bf16⟩
  | .hbm, ⟨2, _⟩ => ⟨S256x16384, .f32⟩
  | .local _ .vmem, ⟨0, _⟩ => ⟨S256x512, .bf16⟩
  | .local _ .vmem, ⟨1, _⟩ => ⟨S512x4096, .bf16⟩
  | .local _ .vmem, ⟨2, _⟩ => ⟨S4x256x4096, .bf16⟩
  | .local _ .vmem, ⟨3, _⟩ => ⟨S4x256x2, .f32⟩
  | .local _ .vmem, ⟨4, _⟩ => ⟨S4x256x4096, .f32⟩
  | _, _ => ⟨S256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  (ofTc nBuf bufTy 1 54 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_18 : BitVec 32 := 16#32
  let v31 : BitVec 32 := Scalar.muli v2 c16_i32_18
  let v32 : BitVec 32 := Scalar.addi c0_i32 v31
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v9 : BitVec 32 := Scalar.addi v5 c3_i32
  let c4_i32_2 : BitVec 32 := 4#32
  let v10 : BitVec 32 := Scalar.remsi v9 c4_i32_2
  let c4_i32_19 : BitVec 32 := 4#32
  let v33 : BitVec 32 := Scalar.muli v10 c4_i32_19
  let v34 : BitVec 32 := Scalar.addi v32 v33
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_20 : BitVec 32 := 1#32
  let v35 : BitVec 32 := Scalar.muli v8 c1_i32_20
  let v36 : BitVec 32 := Scalar.addi v34 v35
  v36.toNat
def k0_dev2 (d0 : Dev nD) : Nat :=
  let c0_i32_23 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_22 : BitVec 32 := 16#32
  let v37 : BitVec 32 := Scalar.muli v2 c16_i32_22
  let v38 : BitVec 32 := Scalar.addi c0_i32_23 v37
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c4_i32_4 : BitVec 32 := 4#32
  let v12 : BitVec 32 := Scalar.remsi v11 c4_i32_4
  let c4_i32_24 : BitVec 32 := 4#32
  let v39 : BitVec 32 := Scalar.muli v12 c4_i32_24
  let v40 : BitVec 32 := Scalar.addi v38 v39
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_25 : BitVec 32 := 1#32
  let v41 : BitVec 32 := Scalar.muli v8 c1_i32_25
  let v42 : BitVec 32 := Scalar.addi v40 v41
  v42.toNat
def k0_dev3 (d0 : Dev nD) : Nat :=
  let c0_i32_28 : BitVec 32 := 0#32
  let c1_i32_5 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v13 : BitVec 32 := Scalar.subi c1_i32_5 v2
  let c16_i32_27 : BitVec 32 := 16#32
  let v43 : BitVec 32 := Scalar.muli v13 c16_i32_27
  let v44 : BitVec 32 := Scalar.addi c0_i32_28 v43
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_29 : BitVec 32 := 4#32
  let v45 : BitVec 32 := Scalar.muli v5 c4_i32_29
  let v46 : BitVec 32 := Scalar.addi v44 v45
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_30 : BitVec 32 := 1#32
  let v47 : BitVec 32 := Scalar.muli v8 c1_i32_30
  let v48 : BitVec 32 := Scalar.addi v46 v47
  v48.toNat
def k0_dev4 (d0 : Dev nD) : Nat :=
  let c0_i32_33 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_32 : BitVec 32 := 16#32
  let v49 : BitVec 32 := Scalar.muli v2 c16_i32_32
  let v50 : BitVec 32 := Scalar.addi c0_i32_33 v49
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_34 : BitVec 32 := 4#32
  let v51 : BitVec 32 := Scalar.muli v5 c4_i32_34
  let v52 : BitVec 32 := Scalar.addi v50 v51
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v14 : BitVec 32 := Scalar.addi v8 c1_i32_6
  let c2_i32_8 : BitVec 32 := 2#32
  let c2_i32_7 : BitVec 32 := 2#32
  let v15 : BitVec 32 := Scalar.remsi v8 c2_i32_7
  let v16 : BitVec 32 := Scalar.muli c2_i32_8 v15
  let v17 : BitVec 32 := Scalar.subi v14 v16
  let c1_i32_35 : BitVec 32 := 1#32
  let v53 : BitVec 32 := Scalar.muli v17 c1_i32_35
  let v54 : BitVec 32 := Scalar.addi v52 v53
  v54.toNat
def k0_off1 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v62 : Index := Scalar.indexCast v5
  let c0_39 : Index := 0#32
  let c0_40 : Index := 0#32
  ![v62.toNat, 0, 0]
def k0_off2 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v79 : Index := Scalar.indexCast v5
  let c0_45 : Index := 0#32
  let c0_46 : Index := 0#32
  ![v79.toNat, 0, 0]
def k0_off3 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v84 : Index := Scalar.indexCast v5
  let c0_47 : Index := 0#32
  let c1 : Index := 1#32
  ![v84.toNat, 0, 1]
def k0_off4 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_55 : BitVec 32 := 0#32
  let c0_i32_56 : BitVec 32 := 0#32
  ![v5.toNat, 0, 0]
def k0_dev5 (d0 : Dev nD) : Nat :=
  let c0_i32_52 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_51 : BitVec 32 := 16#32
  let v88 : BitVec 32 := Scalar.muli v2 c16_i32_51
  let v89 : BitVec 32 := Scalar.addi c0_i32_52 v88
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c4_i32_4 : BitVec 32 := 4#32
  let v12 : BitVec 32 := Scalar.remsi v11 c4_i32_4
  let c4_i32_53 : BitVec 32 := 4#32
  let v90 : BitVec 32 := Scalar.muli v12 c4_i32_53
  let v91 : BitVec 32 := Scalar.addi v89 v90
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_54 : BitVec 32 := 1#32
  let v92 : BitVec 32 := Scalar.muli v8 c1_i32_54
  let v93 : BitVec 32 := Scalar.addi v91 v92
  v93.toNat
def k0_off5 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v19 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_9 : BitVec 32 := 2#32
  let v18 : BitVec 32 := Scalar.remsi v8 c2_i32_9
  let v20 : BitVec 32 := Scalar.addi v19 v18
  let c64_i32 : BitVec 32 := 64#32
  let v21 : BitVec 32 := Scalar.muli v20 c64_i32
  let c0_i32_65 : BitVec 32 := 0#32
  ![v5.toNat, v21.toNat, 0]
def k0_dev6 (d0 : Dev nD) : Nat :=
  let c0_i32_62 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_61 : BitVec 32 := 16#32
  let v102 : BitVec 32 := Scalar.muli v2 c16_i32_61
  let v103 : BitVec 32 := Scalar.addi c0_i32_62 v102
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c4_i32_4 : BitVec 32 := 4#32
  let v12 : BitVec 32 := Scalar.remsi v11 c4_i32_4
  let c4_i32_63 : BitVec 32 := 4#32
  let v104 : BitVec 32 := Scalar.muli v12 c4_i32_63
  let v105 : BitVec 32 := Scalar.addi v103 v104
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_64 : BitVec 32 := 1#32
  let v106 : BitVec 32 := Scalar.muli v8 c1_i32_64
  let v107 : BitVec 32 := Scalar.addi v105 v106
  v107.toNat
def k0_off6 (d0 : Dev nD) (c3_i32_75 : BitVec 32) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v128 : BitVec 32 := Scalar.addi v5 c3_i32_75
  let c4_i32_76 : BitVec 32 := 4#32
  let v129 : BitVec 32 := Scalar.remsi v128 c4_i32_76
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v19 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_9 : BitVec 32 := 2#32
  let v18 : BitVec 32 := Scalar.remsi v8 c2_i32_9
  let v20 : BitVec 32 := Scalar.addi v19 v18
  let c64_i32 : BitVec 32 := 64#32
  let v21 : BitVec 32 := Scalar.muli v20 c64_i32
  let c32_i32 : BitVec 32 := 32#32
  let v130 : BitVec 32 := Scalar.addi v21 c32_i32
  let c0_i32_84 : BitVec 32 := 0#32
  ![v129.toNat, v130.toNat, 0]
def k0_dev7 (d0 : Dev nD) : Nat :=
  let c0_i32_81 : BitVec 32 := 0#32
  let c1_i32_5 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v13 : BitVec 32 := Scalar.subi c1_i32_5 v2
  let c16_i32_80 : BitVec 32 := 16#32
  let v132 : BitVec 32 := Scalar.muli v13 c16_i32_80
  let v133 : BitVec 32 := Scalar.addi c0_i32_81 v132
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_82 : BitVec 32 := 4#32
  let v134 : BitVec 32 := Scalar.muli v5 c4_i32_82
  let v135 : BitVec 32 := Scalar.addi v133 v134
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_83 : BitVec 32 := 1#32
  let v136 : BitVec 32 := Scalar.muli v8 c1_i32_83
  let v137 : BitVec 32 := Scalar.addi v135 v136
  v137.toNat
def k0_off7 (d0 : Dev nD) (c3_i32_75 : BitVec 32) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v128 : BitVec 32 := Scalar.addi v5 c3_i32_75
  let c4_i32_76 : BitVec 32 := 4#32
  let v129 : BitVec 32 := Scalar.remsi v128 c4_i32_76
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v19 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_9 : BitVec 32 := 2#32
  let v18 : BitVec 32 := Scalar.remsi v8 c2_i32_9
  let v20 : BitVec 32 := Scalar.addi v19 v18
  let c64_i32 : BitVec 32 := 64#32
  let v21 : BitVec 32 := Scalar.muli v20 c64_i32
  let c0_i32_92 : BitVec 32 := 0#32
  ![v129.toNat, v21.toNat, 0]
def k0_dev8 (d0 : Dev nD) : Nat :=
  let c0_i32_89 : BitVec 32 := 0#32
  let c1_i32_5 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v13 : BitVec 32 := Scalar.subi c1_i32_5 v2
  let c16_i32_88 : BitVec 32 := 16#32
  let v146 : BitVec 32 := Scalar.muli v13 c16_i32_88
  let v147 : BitVec 32 := Scalar.addi c0_i32_89 v146
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_90 : BitVec 32 := 4#32
  let v148 : BitVec 32 := Scalar.muli v5 c4_i32_90
  let v149 : BitVec 32 := Scalar.addi v147 v148
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_91 : BitVec 32 := 1#32
  let v150 : BitVec 32 := Scalar.muli v8 c1_i32_91
  let v151 : BitVec 32 := Scalar.addi v149 v150
  v151.toNat
def k0_dev9 (d0 : Dev nD) : Nat :=
  let c0_i32_97 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_96 : BitVec 32 := 16#32
  let v160 : BitVec 32 := Scalar.muli v2 c16_i32_96
  let v161 : BitVec 32 := Scalar.addi c0_i32_97 v160
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_98 : BitVec 32 := 4#32
  let v162 : BitVec 32 := Scalar.muli v5 c4_i32_98
  let v163 : BitVec 32 := Scalar.addi v161 v162
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v14 : BitVec 32 := Scalar.addi v8 c1_i32_6
  let c2_i32_8 : BitVec 32 := 2#32
  let c2_i32_7 : BitVec 32 := 2#32
  let v15 : BitVec 32 := Scalar.remsi v8 c2_i32_7
  let v16 : BitVec 32 := Scalar.muli c2_i32_8 v15
  let v17 : BitVec 32 := Scalar.subi v14 v16
  let c1_i32_99 : BitVec 32 := 1#32
  let v164 : BitVec 32 := Scalar.muli v17 c1_i32_99
  let v165 : BitVec 32 := Scalar.addi v163 v164
  v165.toNat
def k0_dev10 (d0 : Dev nD) : Nat :=
  let c0_i32_105 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_104 : BitVec 32 := 16#32
  let v174 : BitVec 32 := Scalar.muli v2 c16_i32_104
  let v175 : BitVec 32 := Scalar.addi c0_i32_105 v174
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_106 : BitVec 32 := 4#32
  let v176 : BitVec 32 := Scalar.muli v5 c4_i32_106
  let v177 : BitVec 32 := Scalar.addi v175 v176
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v14 : BitVec 32 := Scalar.addi v8 c1_i32_6
  let c2_i32_8 : BitVec 32 := 2#32
  let c2_i32_7 : BitVec 32 := 2#32
  let v15 : BitVec 32 := Scalar.remsi v8 c2_i32_7
  let v16 : BitVec 32 := Scalar.muli c2_i32_8 v15
  let v17 : BitVec 32 := Scalar.subi v14 v16
  let c1_i32_107 : BitVec 32 := 1#32
  let v178 : BitVec 32 := Scalar.muli v17 c1_i32_107
  let v179 : BitVec 32 := Scalar.addi v177 v178
  v179.toNat
def k0_off8 (d0 : Dev nD) (c3_i32_110 : BitVec 32) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v188 : BitVec 32 := Scalar.addi v5 c3_i32_110
  let c4_i32_111 : BitVec 32 := 4#32
  let v189 : BitVec 32 := Scalar.remsi v188 c4_i32_111
  let c0_i32_128 : BitVec 32 := 0#32
  let c0_i32_129 : BitVec 32 := 0#32
  ![v189.toNat, 0, 0]
def k0_dev11 (d0 : Dev nD) : Nat :=
  let c0_i32_125 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_124 : BitVec 32 := 16#32
  let v202 : BitVec 32 := Scalar.muli v2 c16_i32_124
  let v203 : BitVec 32 := Scalar.addi c0_i32_125 v202
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c4_i32_4 : BitVec 32 := 4#32
  let v12 : BitVec 32 := Scalar.remsi v11 c4_i32_4
  let c4_i32_126 : BitVec 32 := 4#32
  let v204 : BitVec 32 := Scalar.muli v12 c4_i32_126
  let v205 : BitVec 32 := Scalar.addi v203 v204
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_127 : BitVec 32 := 1#32
  let v206 : BitVec 32 := Scalar.muli v8 c1_i32_127
  let v207 : BitVec 32 := Scalar.addi v205 v206
  v207.toNat
def k0_off9 (d0 : Dev nD) (c3_i32_110 : BitVec 32) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v188 : BitVec 32 := Scalar.addi v5 c3_i32_110
  let c4_i32_111 : BitVec 32 := 4#32
  let v189 : BitVec 32 := Scalar.remsi v188 c4_i32_111
  let c2_i32_10 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v19 : BitVec 32 := Scalar.muli c2_i32_10 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_9 : BitVec 32 := 2#32
  let v18 : BitVec 32 := Scalar.remsi v8 c2_i32_9
  let v20 : BitVec 32 := Scalar.addi v19 v18
  let c64_i32 : BitVec 32 := 64#32
  let v21 : BitVec 32 := Scalar.muli v20 c64_i32
  let c0_i32_138 : BitVec 32 := 0#32
  ![v189.toNat, v21.toNat, 0]
def k0_dev12 (d0 : Dev nD) : Nat :=
  let c0_i32_135 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_134 : BitVec 32 := 16#32
  let v216 : BitVec 32 := Scalar.muli v2 c16_i32_134
  let v217 : BitVec 32 := Scalar.addi c0_i32_135 v216
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c4_i32_4 : BitVec 32 := 4#32
  let v12 : BitVec 32 := Scalar.remsi v11 c4_i32_4
  let c4_i32_136 : BitVec 32 := 4#32
  let v218 : BitVec 32 := Scalar.muli v12 c4_i32_136
  let v219 : BitVec 32 := Scalar.addi v217 v218
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_137 : BitVec 32 := 1#32
  let v220 : BitVec 32 := Scalar.muli v8 c1_i32_137
  let v221 : BitVec 32 := Scalar.addi v219 v220
  v221.toNat
def k0_off10 (d0 : Dev nD) (c3_i32_140 : BitVec 32) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v230 : BitVec 32 := Scalar.addi v5 c3_i32_140
  let c4_i32_141 : BitVec 32 := 4#32
  let v231 : BitVec 32 := Scalar.remsi v230 c4_i32_141
  let c2_i32_14 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.muli c2_i32_14 v2
  let c1_i32_15 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_9 : BitVec 32 := 2#32
  let v18 : BitVec 32 := Scalar.remsi v8 c2_i32_9
  let v27 : BitVec 32 := Scalar.subi c1_i32_15 v18
  let v28 : BitVec 32 := Scalar.addi v26 v27
  let c64_i32_16 : BitVec 32 := 64#32
  let v29 : BitVec 32 := Scalar.muli v28 c64_i32_16
  let c0_i32_156 : BitVec 32 := 0#32
  ![v231.toNat, v29.toNat, 0]
def k0_dev13 (d0 : Dev nD) : Nat :=
  let c0_i32_153 : BitVec 32 := 0#32
  let c1_i32_5 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v13 : BitVec 32 := Scalar.subi c1_i32_5 v2
  let c16_i32_152 : BitVec 32 := 16#32
  let v244 : BitVec 32 := Scalar.muli v13 c16_i32_152
  let v245 : BitVec 32 := Scalar.addi c0_i32_153 v244
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_154 : BitVec 32 := 4#32
  let v246 : BitVec 32 := Scalar.muli v5 c4_i32_154
  let v247 : BitVec 32 := Scalar.addi v245 v246
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_155 : BitVec 32 := 1#32
  let v248 : BitVec 32 := Scalar.muli v8 c1_i32_155
  let v249 : BitVec 32 := Scalar.addi v247 v248
  v249.toNat
def k0_off11 (d0 : Dev nD) (c3_i32_140 : BitVec 32) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v230 : BitVec 32 := Scalar.addi v5 c3_i32_140
  let c4_i32_141 : BitVec 32 := 4#32
  let v231 : BitVec 32 := Scalar.remsi v230 c4_i32_141
  let c2_i32_12 : BitVec 32 := 2#32
  let c1_i32_11 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.subi c1_i32_11 v2
  let v23 : BitVec 32 := Scalar.muli c2_i32_12 v22
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_9 : BitVec 32 := 2#32
  let v18 : BitVec 32 := Scalar.remsi v8 c2_i32_9
  let v24 : BitVec 32 := Scalar.addi v23 v18
  let c64_i32_13 : BitVec 32 := 64#32
  let v25 : BitVec 32 := Scalar.muli v24 c64_i32_13
  let c32_i32_166 : BitVec 32 := 32#32
  let v270 : BitVec 32 := Scalar.addi v25 c32_i32_166
  let c0_i32_173 : BitVec 32 := 0#32
  ![v231.toNat, v270.toNat, 0]
def k0_dev14 (d0 : Dev nD) : Nat :=
  let c0_i32_170 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_169 : BitVec 32 := 16#32
  let v271 : BitVec 32 := Scalar.muli v2 c16_i32_169
  let v272 : BitVec 32 := Scalar.addi c0_i32_170 v271
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_171 : BitVec 32 := 4#32
  let v273 : BitVec 32 := Scalar.muli v5 c4_i32_171
  let v274 : BitVec 32 := Scalar.addi v272 v273
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v14 : BitVec 32 := Scalar.addi v8 c1_i32_6
  let c2_i32_8 : BitVec 32 := 2#32
  let c2_i32_7 : BitVec 32 := 2#32
  let v15 : BitVec 32 := Scalar.remsi v8 c2_i32_7
  let v16 : BitVec 32 := Scalar.muli c2_i32_8 v15
  let v17 : BitVec 32 := Scalar.subi v14 v16
  let c1_i32_172 : BitVec 32 := 1#32
  let v275 : BitVec 32 := Scalar.muli v17 c1_i32_172
  let v276 : BitVec 32 := Scalar.addi v274 v275
  v276.toNat
def k0_dev15 (d0 : Dev nD) : Nat :=
  let c0_i32_190 : BitVec 32 := 0#32
  let c1_i32_5 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v13 : BitVec 32 := Scalar.subi c1_i32_5 v2
  let c16_i32_189 : BitVec 32 := 16#32
  let v301 : BitVec 32 := Scalar.muli v13 c16_i32_189
  let v302 : BitVec 32 := Scalar.addi c0_i32_190 v301
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_191 : BitVec 32 := 4#32
  let v303 : BitVec 32 := Scalar.muli v5 c4_i32_191
  let v304 : BitVec 32 := Scalar.addi v302 v303
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_192 : BitVec 32 := 1#32
  let v305 : BitVec 32 := Scalar.muli v8 c1_i32_192
  let v306 : BitVec 32 := Scalar.addi v304 v305
  v306.toNat
def k0_dev16 (d0 : Dev nD) : Nat :=
  let c0_i32_198 : BitVec 32 := 0#32
  let c1_i32_5 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v13 : BitVec 32 := Scalar.subi c1_i32_5 v2
  let c16_i32_197 : BitVec 32 := 16#32
  let v315 : BitVec 32 := Scalar.muli v13 c16_i32_197
  let v316 : BitVec 32 := Scalar.addi c0_i32_198 v315
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_199 : BitVec 32 := 4#32
  let v317 : BitVec 32 := Scalar.muli v5 c4_i32_199
  let v318 : BitVec 32 := Scalar.addi v316 v317
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_200 : BitVec 32 := 1#32
  let v319 : BitVec 32 := Scalar.muli v8 c1_i32_200
  let v320 : BitVec 32 := Scalar.addi v318 v319
  v320.toNat
def k0_dev17 (d0 : Dev nD) : Nat :=
  let c0_i32_206 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_205 : BitVec 32 := 16#32
  let v329 : BitVec 32 := Scalar.muli v2 c16_i32_205
  let v330 : BitVec 32 := Scalar.addi c0_i32_206 v329
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_207 : BitVec 32 := 4#32
  let v331 : BitVec 32 := Scalar.muli v5 c4_i32_207
  let v332 : BitVec 32 := Scalar.addi v330 v331
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v14 : BitVec 32 := Scalar.addi v8 c1_i32_6
  let c2_i32_8 : BitVec 32 := 2#32
  let c2_i32_7 : BitVec 32 := 2#32
  let v15 : BitVec 32 := Scalar.remsi v8 c2_i32_7
  let v16 : BitVec 32 := Scalar.muli c2_i32_8 v15
  let v17 : BitVec 32 := Scalar.subi v14 v16
  let c1_i32_208 : BitVec 32 := 1#32
  let v333 : BitVec 32 := Scalar.muli v17 c1_i32_208
  let v334 : BitVec 32 := Scalar.addi v332 v333
  v334.toNat
def k0_dev18 (d0 : Dev nD) : Nat :=
  let c0_i32_214 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_213 : BitVec 32 := 16#32
  let v343 : BitVec 32 := Scalar.muli v2 c16_i32_213
  let v344 : BitVec 32 := Scalar.addi c0_i32_214 v343
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_215 : BitVec 32 := 4#32
  let v345 : BitVec 32 := Scalar.muli v5 c4_i32_215
  let v346 : BitVec 32 := Scalar.addi v344 v345
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v14 : BitVec 32 := Scalar.addi v8 c1_i32_6
  let c2_i32_8 : BitVec 32 := 2#32
  let c2_i32_7 : BitVec 32 := 2#32
  let v15 : BitVec 32 := Scalar.remsi v8 c2_i32_7
  let v16 : BitVec 32 := Scalar.muli c2_i32_8 v15
  let v17 : BitVec 32 := Scalar.subi v14 v16
  let c1_i32_216 : BitVec 32 := 1#32
  let v347 : BitVec 32 := Scalar.muli v17 c1_i32_216
  let v348 : BitVec 32 := Scalar.addi v346 v347
  v348.toNat
def k0_dev19 (d0 : Dev nD) : Nat :=
  let c0_i32_234 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_233 : BitVec 32 := 16#32
  let v371 : BitVec 32 := Scalar.muli v2 c16_i32_233
  let v372 : BitVec 32 := Scalar.addi c0_i32_234 v371
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c4_i32_4 : BitVec 32 := 4#32
  let v12 : BitVec 32 := Scalar.remsi v11 c4_i32_4
  let c4_i32_235 : BitVec 32 := 4#32
  let v373 : BitVec 32 := Scalar.muli v12 c4_i32_235
  let v374 : BitVec 32 := Scalar.addi v372 v373
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_236 : BitVec 32 := 1#32
  let v375 : BitVec 32 := Scalar.muli v8 c1_i32_236
  let v376 : BitVec 32 := Scalar.addi v374 v375
  v376.toNat
def k0_dev20 (d0 : Dev nD) : Nat :=
  let c0_i32_244 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_243 : BitVec 32 := 16#32
  let v385 : BitVec 32 := Scalar.muli v2 c16_i32_243
  let v386 : BitVec 32 := Scalar.addi c0_i32_244 v385
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c4_i32_4 : BitVec 32 := 4#32
  let v12 : BitVec 32 := Scalar.remsi v11 c4_i32_4
  let c4_i32_245 : BitVec 32 := 4#32
  let v387 : BitVec 32 := Scalar.muli v12 c4_i32_245
  let v388 : BitVec 32 := Scalar.addi v386 v387
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_246 : BitVec 32 := 1#32
  let v389 : BitVec 32 := Scalar.muli v8 c1_i32_246
  let v390 : BitVec 32 := Scalar.addi v388 v389
  v390.toNat
def k0_dev21 (d0 : Dev nD) : Nat :=
  let c0_i32_262 : BitVec 32 := 0#32
  let c1_i32_5 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v13 : BitVec 32 := Scalar.subi c1_i32_5 v2
  let c16_i32_261 : BitVec 32 := 16#32
  let v413 : BitVec 32 := Scalar.muli v13 c16_i32_261
  let v414 : BitVec 32 := Scalar.addi c0_i32_262 v413
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_263 : BitVec 32 := 4#32
  let v415 : BitVec 32 := Scalar.muli v5 c4_i32_263
  let v416 : BitVec 32 := Scalar.addi v414 v415
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_264 : BitVec 32 := 1#32
  let v417 : BitVec 32 := Scalar.muli v8 c1_i32_264
  let v418 : BitVec 32 := Scalar.addi v416 v417
  v418.toNat
def k0_dev22 (d0 : Dev nD) : Nat :=
  let c0_i32_279 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_278 : BitVec 32 := 16#32
  let v440 : BitVec 32 := Scalar.muli v2 c16_i32_278
  let v441 : BitVec 32 := Scalar.addi c0_i32_279 v440
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_280 : BitVec 32 := 4#32
  let v442 : BitVec 32 := Scalar.muli v5 c4_i32_280
  let v443 : BitVec 32 := Scalar.addi v441 v442
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v14 : BitVec 32 := Scalar.addi v8 c1_i32_6
  let c2_i32_8 : BitVec 32 := 2#32
  let c2_i32_7 : BitVec 32 := 2#32
  let v15 : BitVec 32 := Scalar.remsi v8 c2_i32_7
  let v16 : BitVec 32 := Scalar.muli c2_i32_8 v15
  let v17 : BitVec 32 := Scalar.subi v14 v16
  let c1_i32_281 : BitVec 32 := 1#32
  let v444 : BitVec 32 := Scalar.muli v17 c1_i32_281
  let v445 : BitVec 32 := Scalar.addi v443 v444
  v445.toNat
def k0_off12 (d0 : Dev nD) : Fin 2 → Nat :=
  let c0_i32_308 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4096_i32 : BitVec 32 := 4096#32
  let v490 : BitVec 32 := Scalar.muli v5 c4096_i32
  ![0, v490.toNat]
def k0_off13 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_309 : BitVec 32 := 0#32
  let c0_i32_310 : BitVec 32 := 0#32
  ![v5.toNat, 0, 0]
def k0_off14 (d0 : Dev nD) (c3_i32_343 : BitVec 32) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v544 : BitVec 32 := Scalar.addi v5 c3_i32_343
  let c4_i32_344 : BitVec 32 := 4#32
  let v545 : BitVec 32 := Scalar.remsi v544 c4_i32_344
  let v546 : Index := Scalar.indexCast v545
  let c0_345 : Index := 0#32
  let c0_346 : Index := 0#32
  ![v546.toNat, 0, 0]
def k0_off15 (d0 : Dev nD) (c3_i32_343 : BitVec 32) : Fin 2 → Nat :=
  let c0_i32_351 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v544 : BitVec 32 := Scalar.addi v5 c3_i32_343
  let c4_i32_344 : BitVec 32 := 4#32
  let v545 : BitVec 32 := Scalar.remsi v544 c4_i32_344
  let c4096_i32_349 : BitVec 32 := 4096#32
  let v560 : BitVec 32 := Scalar.muli v545 c4096_i32_349
  ![0, v560.toNat]
def k0_off16 (d0 : Dev nD) (c3_i32_343 : BitVec 32) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v544 : BitVec 32 := Scalar.addi v5 c3_i32_343
  let c4_i32_344 : BitVec 32 := 4#32
  let v545 : BitVec 32 := Scalar.remsi v544 c4_i32_344
  let c0_i32_352 : BitVec 32 := 0#32
  let c0_i32_353 : BitVec 32 := 0#32
  ![v545.toNat, 0, 0]
def k0_dev23 (d0 : Dev nD) : Nat :=
  let c0_i32_369 : BitVec 32 := 0#32
  let c1_i32_5 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v13 : BitVec 32 := Scalar.subi c1_i32_5 v2
  let c16_i32_368 : BitVec 32 := 16#32
  let v582 : BitVec 32 := Scalar.muli v13 c16_i32_368
  let v583 : BitVec 32 := Scalar.addi c0_i32_369 v582
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_370 : BitVec 32 := 4#32
  let v584 : BitVec 32 := Scalar.muli v5 c4_i32_370
  let v585 : BitVec 32 := Scalar.addi v583 v584
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_371 : BitVec 32 := 1#32
  let v586 : BitVec 32 := Scalar.muli v8 c1_i32_371
  let v587 : BitVec 32 := Scalar.addi v585 v586
  v587.toNat
def k0_dev24 (d0 : Dev nD) : Nat :=
  let c0_i32_377 : BitVec 32 := 0#32
  let c1_i32_5 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v13 : BitVec 32 := Scalar.subi c1_i32_5 v2
  let c16_i32_376 : BitVec 32 := 16#32
  let v596 : BitVec 32 := Scalar.muli v13 c16_i32_376
  let v597 : BitVec 32 := Scalar.addi c0_i32_377 v596
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_378 : BitVec 32 := 4#32
  let v598 : BitVec 32 := Scalar.muli v5 c4_i32_378
  let v599 : BitVec 32 := Scalar.addi v597 v598
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_379 : BitVec 32 := 1#32
  let v600 : BitVec 32 := Scalar.muli v8 c1_i32_379
  let v601 : BitVec 32 := Scalar.addi v599 v600
  v601.toNat
def k0_dev25 (d0 : Dev nD) : Nat :=
  let c0_i32_385 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_384 : BitVec 32 := 16#32
  let v610 : BitVec 32 := Scalar.muli v2 c16_i32_384
  let v611 : BitVec 32 := Scalar.addi c0_i32_385 v610
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_386 : BitVec 32 := 4#32
  let v612 : BitVec 32 := Scalar.muli v5 c4_i32_386
  let v613 : BitVec 32 := Scalar.addi v611 v612
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v14 : BitVec 32 := Scalar.addi v8 c1_i32_6
  let c2_i32_8 : BitVec 32 := 2#32
  let c2_i32_7 : BitVec 32 := 2#32
  let v15 : BitVec 32 := Scalar.remsi v8 c2_i32_7
  let v16 : BitVec 32 := Scalar.muli c2_i32_8 v15
  let v17 : BitVec 32 := Scalar.subi v14 v16
  let c1_i32_387 : BitVec 32 := 1#32
  let v614 : BitVec 32 := Scalar.muli v17 c1_i32_387
  let v615 : BitVec 32 := Scalar.addi v613 v614
  v615.toNat
def k0_dev26 (d0 : Dev nD) : Nat :=
  let c0_i32_393 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_392 : BitVec 32 := 16#32
  let v624 : BitVec 32 := Scalar.muli v2 c16_i32_392
  let v625 : BitVec 32 := Scalar.addi c0_i32_393 v624
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_394 : BitVec 32 := 4#32
  let v626 : BitVec 32 := Scalar.muli v5 c4_i32_394
  let v627 : BitVec 32 := Scalar.addi v625 v626
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v14 : BitVec 32 := Scalar.addi v8 c1_i32_6
  let c2_i32_8 : BitVec 32 := 2#32
  let c2_i32_7 : BitVec 32 := 2#32
  let v15 : BitVec 32 := Scalar.remsi v8 c2_i32_7
  let v16 : BitVec 32 := Scalar.muli c2_i32_8 v15
  let v17 : BitVec 32 := Scalar.subi v14 v16
  let c1_i32_395 : BitVec 32 := 1#32
  let v628 : BitVec 32 := Scalar.muli v17 c1_i32_395
  let v629 : BitVec 32 := Scalar.addi v627 v628
  v629.toNat
def k0_dev27 (d0 : Dev nD) : Nat :=
  let c0_i32_411 : BitVec 32 := 0#32
  let c1_i32_5 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v13 : BitVec 32 := Scalar.subi c1_i32_5 v2
  let c16_i32_410 : BitVec 32 := 16#32
  let v652 : BitVec 32 := Scalar.muli v13 c16_i32_410
  let v653 : BitVec 32 := Scalar.addi c0_i32_411 v652
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_412 : BitVec 32 := 4#32
  let v654 : BitVec 32 := Scalar.muli v5 c4_i32_412
  let v655 : BitVec 32 := Scalar.addi v653 v654
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_413 : BitVec 32 := 1#32
  let v656 : BitVec 32 := Scalar.muli v8 c1_i32_413
  let v657 : BitVec 32 := Scalar.addi v655 v656
  v657.toNat
def k0_dev28 (d0 : Dev nD) : Nat :=
  let c0_i32_428 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_427 : BitVec 32 := 16#32
  let v679 : BitVec 32 := Scalar.muli v2 c16_i32_427
  let v680 : BitVec 32 := Scalar.addi c0_i32_428 v679
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_429 : BitVec 32 := 4#32
  let v681 : BitVec 32 := Scalar.muli v5 c4_i32_429
  let v682 : BitVec 32 := Scalar.addi v680 v681
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v14 : BitVec 32 := Scalar.addi v8 c1_i32_6
  let c2_i32_8 : BitVec 32 := 2#32
  let c2_i32_7 : BitVec 32 := 2#32
  let v15 : BitVec 32 := Scalar.remsi v8 c2_i32_7
  let v16 : BitVec 32 := Scalar.muli c2_i32_8 v15
  let v17 : BitVec 32 := Scalar.subi v14 v16
  let c1_i32_430 : BitVec 32 := 1#32
  let v683 : BitVec 32 := Scalar.muli v17 c1_i32_430
  let v684 : BitVec 32 := Scalar.addi v682 v683
  v684.toNat
abbrev stage0_0 : Fin 1 → Memref sig .tc .vmem S256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S256x512 : Shape := ⟨2, ![256, 512]⟩
abbrev S512x16384 : Shape := ⟨2, ![512, 16384]⟩
abbrev S256x16384 : Shape := ⟨2, ![256, 16384]⟩
abbrev S_ : Shape := ⟨0, ![]⟩
abbrev S256 : Shape := ⟨1, ![256]⟩
abbrev S256x1 : Shape := ⟨2, ![256, 1]⟩

abbrev nBuf : Space → Nat
  | .hbm => 16
  | .vmem => 0
  | .smem => 0
  | _ => 0

abbrev bufTy : (tb : Table) → Fin (tcTables nBuf tb) → BufTy
  | .hbm, ⟨0, _⟩ => ⟨S256x512, .bf16⟩
  | .hbm, ⟨1, _⟩ => ⟨S512x16384, .bf16⟩
  | .hbm, ⟨2, _⟩ => ⟨S256x512, .f32⟩
  | .hbm, ⟨3, _⟩ => ⟨S512x16384, .f32⟩
  | .hbm, ⟨4, _⟩ => ⟨S256x16384, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S256x16384, .f32⟩
  | .hbm, ⟨9, _⟩ => ⟨S256x16384, .f32⟩
  | .hbm, ⟨10, _⟩ => ⟨S256x16384, .f32⟩
  | .hbm, ⟨11, _⟩ => ⟨S_, .f32⟩
  | .hbm, ⟨12, _⟩ => ⟨S256, .f32⟩
  | .hbm, ⟨13, _⟩ => ⟨S256x1, .f32⟩
  | .hbm, ⟨14, _⟩ => ⟨S256x16384, .f32⟩
  | .hbm, ⟨15, _⟩ => ⟨S256x16384, .f32⟩
  | _, _ => ⟨S256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Proof.Mesh.lean ====
/-
The mesh of 32 devices seen by the kernel: coordinates, neighbours, the 24 remote copies, and the
regions of the gather, statistics, staging and result buffers that the copies move.

Device `c = 16 x + 4 y + z`.  `right`/`left` step along `y`, `px` flips `x`, `pz` flips the parity of `z`.
A copy is named `(κ, h)`: `κ` the kind (which pair of semaphore arrays it uses) and `h` the round.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.Proof.Run

open Cert.KernelIdeal Cert.KernelIdeal.Gen
open Idealize.ShloMosaic
open Idealize.ShloMosaic.TcCoe

/-! ## Coordinates and neighbours -/

/-- Coordinate on the first mesh axis (0 or 1). -/
def xC (c : Dev nD) : ℕ := c.val / 16
/-- Coordinate on the second mesh axis (0 to 3). -/
def yC (c : Dev nD) : ℕ := c.val / 4 % 4
/-- Parity of the third coordinate. -/
def bC (c : Dev nD) : ℕ := c.val % 2

theorem xC_lt (c : Dev nD) : xC c < 2 := by have h : c.val < 32 := c.isLt; unfold xC; omega
theorem yC_lt (c : Dev nD) : yC c < 4 := by unfold yC; omega
theorem bC_lt (c : Dev nD) : bC c < 2 := by unfold bC; omega

/-- The next device along `y`, cyclically. -/
def right (c : Dev nD) : Dev nD :=
  ⟨c.val / 16 * 16 + (c.val / 4 + 1) % 4 * 4 + c.val % 4, by have h : c.val < 32 := c.isLt; show _ < 32; omega⟩
/-- The device before along `y`, cyclically. -/
def left (c : Dev nD) : Dev nD :=
  ⟨c.val / 16 * 16 + (c.val / 4 + 3) % 4 * 4 + c.val % 4, by have h : c.val < 32 := c.isLt; show _ < 32; omega⟩
/-- The partner along `x`. -/
def px (c : Dev nD) : Dev nD :=
  ⟨(c.val + 16) % 32, by show _ < 32; omega⟩
/-- The partner along `z` (parity flipped). -/
def pz (c : Dev nD) : Dev nD :=
  ⟨c.val / 2 * 2 + (c.val + 1) % 2, by have h : c.val < 32 := c.isLt; show _ < 32; omega⟩

theorem left_right : ∀ c : Dev nD, left (right c) = c := by decide +kernel
theorem right_left : ∀ c : Dev nD, right (left c) = c := by decide +kernel
theorem px_px : ∀ c : Dev nD, px (px c) = c := by decide +kernel
theorem pz_pz : ∀ c : Dev nD, pz (pz c) = c := by decide +kernel

/-! ## The remote copies -/

/-- The name of a remote copy: its kind and its round. -/
abbrev TX : Type := Fin 8 × Fin 3

/-- Where a copy of this kind goes. -/
def dst : Fin 8 → Dev nD → Dev nD := ![right, right, px, px, pz, pz, px, pz]
/-- Where a copy of this kind comes from. -/
def frm : Fin 8 → Dev nD → Dev nD := ![left, left, px, px, pz, pz, px, pz]

theorem frm_dst : ∀ (k : Fin 8) (c : Dev nD), frm k (dst k c) = c := by decide +kernel
theorem dst_frm : ∀ (k : Fin 8) (c : Dev nD), dst k (frm k c) = c := by decide +kernel

/-- The block of columns (slot of the gather buffer) a copy moves. -/
def slotN (t : TX) (c : Dev nD) : ℕ :=
  if t.1.val < 2 then (yC c + 4 - t.2.val) % 4 else (yC c + 3 - t.2.val) % 4

/-- The first of the groups of 32 rows that a copy moves. -/
def loE (k : Fin 8) (c : Dev nD) : ℕ :=
  match k with
  | 0 | 2 | 4 => 4 * xC c + 2 * bC c
  | 1 => 0
  | 3 | 5 => 4 * xC c + 2 * bC c + 1
  | 6 => 4 * xC c + 2 * (1 - bC c)
  | 7 => 4 * (1 - xC c) + 2 * bC c + 1

/-- How many groups of 32 rows a copy moves. -/
def nE (k : Fin 8) : ℕ := match k with | 0 => 2 | 1 => 8 | _ => 1

/-! ## Regions -/

/-- Rows `[32 lo, 32 (lo + n))` of slot `s` of the gather or staging buffer. -/
def gReg (s lo n : ℕ) : Finset S4x256x4096.Idx :=
  Finset.univ.filter fun i => (i 0).val = s ∧ 32 * lo ≤ (i 1).val ∧ (i 1).val < 32 * (lo + n)

/-- Slot `s` of the statistics buffer. -/
def sReg (s : ℕ) : Finset S4x256x2.Idx := Finset.univ.filter fun i => (i 0).val = s

/-- Column block `s` of the result. -/
def oReg (s : ℕ) : Finset S256x16384.Idx := Finset.univ.filter fun i => (i 1).val / 4096 = s

theorem mem_gReg {s lo n : ℕ} {i : S4x256x4096.Idx} :
    i ∈ gReg s lo n ↔ (i 0).val = s ∧ 32 * lo ≤ (i 1).val ∧ (i 1).val < 32 * (lo + n) := by
  simp [gReg]

theorem mem_sReg {s : ℕ} {i : S4x256x2.Idx} : i ∈ sReg s ↔ (i 0).val = s := by simp [sReg]

theorem mem_oReg {s : ℕ} {i : S256x16384.Idx} : i ∈ oReg s ↔ (i 1).val / 4096 = s := by simp [oReg]

/-- Two row ranges of a slot that do not meet. -/
theorem gReg_disjoint {s lo n lo' n' : ℕ} (h : lo + n ≤ lo' ∨ lo' + n' ≤ lo) :
    Disjoint (gReg s lo n) (gReg s lo' n') := by
  rw [Finset.disjoint_left]
  intro i hi hj
  rw [mem_gReg] at hi hj
  omega

/-- Two slots do not meet. -/
theorem gReg_disjoint_slot {s s' lo n lo' n' : ℕ} (h : s ≠ s') :
    Disjoint (gReg s lo n) (gReg s' lo' n') := by
  rw [Finset.disjoint_left]
  intro i hi hj
  rw [mem_gReg] at hi hj
  omega

/-- A row range cut in two. -/
theorem gReg_cut (s lo n n' : ℕ) : gReg s lo (n + n') = gReg s lo n ∪ gReg s (lo + n) n' := by
  ext i
  rw [Finset.mem_union, mem_gReg, mem_gReg, mem_gReg]
  omega

/-- The elements of a box of the gather (or staging) buffer. -/
theorem rect_set {s lo n : ℕ} {off sz : Fin 3 → ℕ} {inb : ∀ a, off a + sz a ≤ S4x256x4096.size a}
    (h : off = ![s, 32 * lo, 0]) (hz : sz = ![1, 32 * n, 4096]) :
    (Rect.unit (s := S4x256x4096) off sz inb).set = gReg s lo n := by
  subst h hz
  ext i
  rw [Rect.mem_set_unit, mem_gReg]
  have h2 : (i 2).val < 4096 := (i 2).isLt
  constructor
  · intro h
    have a0 := h 0
    have a1 := h 1
    simp at a0 a1
    omega
  · rintro ⟨a0, a1, a2⟩ a
    fin_cases a <;> simp <;> omega

/-- The elements of one slot of the statistics buffer. -/
theorem srect_set {s : ℕ} {off : Fin 3 → ℕ} {inb : ∀ a, off a + S1x256x2.size a ≤ S4x256x2.size a}
    (h : off = ![s, 0, 0]) :
    (Rect.unit (s := S4x256x2) off S1x256x2.size inb).set = sReg s := by
  subst h
  ext i
  rw [Rect.mem_set_unit, mem_sReg]
  have h1 : (i 1).val < 256 := (i 1).isLt
  have h2 : (i 2).val < 2 := (i 2).isLt
  constructor
  · intro h
    have a0 := h 0
    simp at a0
    omega
  · intro a0 a
    fin_cases a <;> simp <;> omega

/-- The elements of one column block of the result. -/
theorem orect_set {s : ℕ} {off : Fin 2 → ℕ} {inb : ∀ a, off a + S256x4096.size a ≤ S256x16384.size a}
    (h : off = ![0, 4096 * s]) :
    (Rect.unit (s := S256x16384) off S256x4096.size inb).set = oReg s := by
  subst h
  ext i
  rw [Rect.mem_set_unit, mem_oReg]
  have h0 : (i 0).val < 256 := (i 0).isLt
  constructor
  · intro h
    have a1 := h 1
    simp at a1
    omega
  · intro a1 a
    fin_cases a <;> simp <;> omega

end Cert.Proof.Run

end
-- ==== Proof.Sched.lean ====
/-
What every buffer holds when it is complete, and the schedule of the semaphores: which event raises
which counter, by how much, and what it hands to the device that waits.
-/
module

public import proofs.«01_k».proof.Proof.Mesh

@[expose] public section

noncomputable section

namespace Cert.Proof.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The ghost state -/

abbrev UK : Type := URounds (GSem nD τ sig) (Fin 4)
abbrev UU : Type := UR sig nD τ × UK

local notation "𝕄" => MT nD τ sig Unit (Elt F) ℕ UU ℕ

abbrev EP : Emb (UR sig nD τ) (MT nD τ sig Unit (Elt F) ℕ UU ℕ) := embL
abbrev ER : Emb UK (MT nD τ sig Unit (Elt F) ℕ UU ℕ) := embR

variable (m : (ℓ : Loc nD τ sig) → Buf (Elt F) ℓ) (ρ : Dev nD → PrngReg)

/-- The memory at the start: any contents, every counter at zero. -/
def s₀ : MemSt nD τ sig (Elt F) := ⟨m, fun _ => 0, ρ⟩

/-! ## Contents -/

/-- The activations on device `c`. -/
def xIn (c : Dev nD) : (cc0_stg0_0 : Ref sig .tc).ty.Contents (Elt F) :=
  (win0_0.blk (0 : Fin 1)).view.read (Elt F) ((s₀ m ρ).mem ((c : Thread nD τ).loc main_arg0))
/-- The columns of the weights on device `c`. -/
def wIn (c : Dev nD) : (cc0_stg1_0 : Ref sig .tc).ty.Contents (Elt F) :=
  (win0_1.blk (0 : Fin 1)).view.read (Elt F) ((s₀ m ρ).mem ((c : Thread nD τ).loc main_arg1))

/-- The logits device `c` computes. -/
def lgt (c : Dev nD) : FVec F S256x4096 .f32 := k0_pay1 (xIn m ρ c) (wIn m ρ c)

/-- An element of a four-slot buffer as an element of one slot. -/
def inSlot (i : S4x256x4096.Idx) : S1x256x4096.Idx := fun a => match a with
  | 0 => ⟨0, Nat.zero_lt_one⟩ | 1 => ⟨(i 1).val, (i 1).isLt⟩ | 2 => ⟨(i 2).val, (i 2).isLt⟩
/-- An element of one slot placed in slot `s`. -/
def atSlot (s : ℕ) (j : S1x256x4096.Idx) : S4x256x4096.Idx := fun a => match a with
  | 0 => ⟨s % 4, Nat.mod_lt _ (by decide)⟩ | 1 => ⟨(j 1).val, (j 1).isLt⟩ | 2 => ⟨(j 2).val, (j 2).isLt⟩
/-- An element of the statistics buffer as an element of one column of one slot. -/
def statIn (i : S4x256x2.Idx) : S1x256x1.Idx := fun a => match a with
  | 0 => ⟨0, Nat.zero_lt_one⟩ | 1 => ⟨(i 1).val, (i 1).isLt⟩ | 2 => ⟨0, Nat.zero_lt_one⟩
/-- Column `k` of the statistics buffer. -/
def statAt (k : Fin 2) (i : S4x256x1.Idx) : S4x256x2.Idx := fun a => match a with
  | 0 => ⟨(i 0).val, (i 0).isLt⟩ | 1 => ⟨(i 1).val, (i 1).isLt⟩ | 2 => k
/-- An element of the result as an element of the staging buffer. -/
def inStage (i : S256x16384.Idx) : S4x256x4096.Idx := fun a => match a with
  | 0 => ⟨(i 1).val / 4096 % 4, Nat.mod_lt _ (by decide)⟩ | 1 => ⟨(i 0).val, (i 0).isLt⟩
  | 2 => ⟨(i 1).val % 4096, Nat.mod_lt _ (by decide)⟩

/-- The device that computed group `e` of the rows in slot `s` of device `c`'s gather buffer. -/
def org (c : Dev nD) (s e : ℕ) : Dev nD :=
  if s = yC c then c else ⟨(16 * (e / 4) + 4 * s + (c.val / 2 % 2 * 2 + e / 2 % 2)) % 32, Nat.mod_lt _ (by decide)⟩
/-- The device on `c`'s `y` ring that sits at `s`. -/
def onRing (c : Dev nD) (s : ℕ) : Dev nD := ⟨(16 * xC c + 4 * s + c.val % 4) % 32, Nat.mod_lt _ (by decide)⟩

/-- The gather buffer of device `c`, complete. -/
def GF (c : Dev nD) : (cc0_scratch0 : Ref sig .tc).ty.Contents (Elt F) := fun i =>
  let d := org c (i 0).val ((i 1).val / 32)
  k0_pay3 (k0_pay2 (xIn m ρ d) (wIn m ρ d)) (inSlot i)

/-- The statistics buffer of device `c`, complete. -/
def SF (c : Dev nD) : (cc0_scratch1 : Ref sig .tc).ty.Contents (Elt F) := fun i =>
  let d := onRing c (i 0).val
  if (i 2).val = 0 then k0_pay7 (lgt m ρ d) (statIn i) else k0_pay8 (lgt m ρ d) (statIn i)

/-- The four maxima per row that device `c` reads. -/
def maxs (c : Dev nD) : Vec F S4x256x1 .f32 := fun i => SF m ρ c (statAt 0 i)
/-- The four sums per row that device `c` reads. -/
def sums (c : Dev nD) : Vec F S4x256x1 .f32 := fun i => SF m ρ c (statAt 1 i)

/-- One slot of the gather buffer. -/
def gRow (c : Dev nD) (s : ℕ) : Vec F S1x256x4096 .bf16 := fun j => GF m ρ c (atSlot s j)

/-- One slot of the staging buffer when it is complete. -/
def stRow (c : Dev nD) (s : ℕ) : Vec F S1x256x4096 .f32 :=
  if s = yC c then
    k0_pay12 (k0_pay11 (k0_pay4 (lgt m ρ c)) (maxs m ρ c) (sums m ρ c) (k0_pay6 (lgt m ρ c)))
  else k0_pay14 (k0_pay13 (k0_pay9 (maxs m ρ c)) (k0_pay10 (maxs m ρ c) (sums m ρ c)) (gRow m ρ c s))

/-- The staging buffer of device `c`, complete. -/
def STF (c : Dev nD) : (cc0_scratch2 : Ref sig .tc).ty.Contents (Elt F) := fun i => stRow m ρ c (i 0).val (inSlot i)

/-- The result of device `c`. -/
def OUT (c : Dev nD) : (main_v1 : Ref sig .tc).ty.Contents (Elt F) := fun i => STF m ρ c (inStage i)

/-! ## The semaphores -/

/-- The semaphores of the kernel's own: the four local copies, and per remote copy the sender's (`false`)
    and the receiver's (`true`). -/
abbrev KS : Type := Fin 4 ⊕ (TX × Bool)

/-- The index of a semaphore. -/
def enc : KS → Fin 54
  | .inl i => ⟨2 + i.val, by omega⟩
  | .inr (t, b) => ⟨6 + 6 * t.1.val + (if b then 3 else 0) + t.2.val, by have := t.1.isLt; have := t.2.isLt; split <;> omega⟩

/-- The semaphore with a given index, if it is the kernel's own. -/
def dec (q : Fin 54) : Option KS :=
  if q.val < 2 then none
  else if q.val < 6 then some (.inl ⟨(q.val - 2) % 4, Nat.mod_lt _ (by decide)⟩)
  else some (.inr ((⟨(q.val - 6) / 6, by have := q.isLt; omega⟩, ⟨(q.val - 6) % 3, by omega⟩), decide (3 ≤ (q.val - 6) % 6)))

theorem dec_enc : ∀ k : KS, dec (enc k) = some k := by decide +kernel

theorem enc_inj : Function.Injective enc := fun a b h => by
  have := congrArg dec h
  rw [dec_enc, dec_enc] at this
  exact Option.some.inj this

abbrev barS : Sem sig := (SemArray.scalar (sig.barrier 0 rfl) : Sems sig S_).sem

/-- The kernel's own semaphores and the barrier (`none`). -/
abbrev osem (k : KS) : SemLoc sig := .dma (enc k : DmaSem sig)
abbrev csem : Option KS → SemLoc sig := fun | none => .reg barS | some k => osem k
abbrev cell (c : Dev nD) (k : Option KS) : GSem nD τ sig := ((c : Thread nD τ), csem k)
abbrev barCell (c : Dev nD) : GSem nD τ sig := cell c none
abbrev sndCell (c : Dev nD) (t : TX) : GSem nD τ sig := cell c (some (.inr (t, false)))
abbrev rcvCell (c : Dev nD) (t : TX) : GSem nD τ sig := cell c (some (.inr (t, true)))
abbrev cpCell (c : Dev nD) (i : Fin 4) : GSem nD τ sig := cell c (some (.inl i))

theorem csem_inj : Function.Injective csem := by
  intro a b h
  match a, b, h with
  | none, none, _ => rfl
  | none, some k, h => cases h
  | some k, none, h => cases h
  | some k, some k', h =>
    have : enc k = enc k' := SemLoc.dma.inj h
    rw [enc_inj this]

theorem cell_inj {c c' : Dev nD} {k k' : Option KS} (h : cell c k = cell c' k') : c = c' ∧ k = k' :=
  ⟨Fin.ext (congrArg (fun g : GSem nD τ sig => g.1.1.val) h), csem_inj (congrArg Prod.snd h)⟩

/-- What a remote copy of this kind counts. -/
def NN (k : Fin 8) : ℕ :=
  if k = 1 then sig.dmaCredit .tc (Kind.tc.table .vmem) (View.whole cc0_scratch1).buf S256x2 .f32
  else if k = 0 then sig.dmaCredit .tc (Kind.tc.table .vmem) (View.whole cc0_scratch0).buf S64x4096 .bf16
  else sig.dmaCredit .tc (Kind.tc.table .vmem) (View.whole cc0_scratch0).buf S32x4096 .bf16

/-- What a local copy counts. -/
def NC : ℕ := sig.dmaCredit .tc (Kind.tc.table .hbm) (View.whole main_v1).buf S256x4096 .f32

theorem NN_pos (k : Fin 8) : 0 < NN k := by
  unfold NN
  split
  · exact sig.dmaCredit_pos _ _ _ _ _ (by decide)
  split <;> exact sig.dmaCredit_pos _ _ _ _ _ (by decide)

theorem NC_pos : 0 < NC := by
  unfold NC
  exact sig.dmaCredit_pos _ _ _ _ _ (by decide)

/-! ## What the events hand over -/

/-- The part of device `c`'s gather or statistics buffer that copy `t`, sent by device `s`, moves. -/
def part (c : Dev nD) (t : TX) (s : Dev nD) (q : PosShare TreeShare)
    (f0 : (cc0_scratch0 : Ref sig .tc).ty.Contents (Elt F)) (f1 : (cc0_scratch1 : Ref sig .tc).ty.Contents (Elt F)) : sProp 𝕄 :=
  if t.1 = 1 then ((c : Thread nD τ).loc cc0_scratch1) ↦[sReg (slotN t s)]{q} f1
  else ((c : Thread nD τ).loc cc0_scratch0) ↦[gReg (slotN t s) (loE t.1 s) (nE t.1)]{q} f0

/-- The share of its source a copy of this kind holds. -/
def sq : Fin 8 → PosShare TreeShare :=
  ![fullShare.right.left, fullShare.right, fullShare.right.right.left, fullShare.right.right.left,
    fullShare.right.right.right, fullShare.right.right.right, fullShare.right, fullShare.right]

/-- Handed to the sender of copy `t`: its source back. -/
def sndPay (c : Dev nD) (t : TX) : sProp 𝕄 := part c t c (sq t.1) (GF m ρ c) (SF m ρ c)
/-- Handed to the receiver of copy `t`: the data. -/
def rcvPay (c : Dev nD) (t : TX) : sProp 𝕄 := part c t (frm t.1 c) fullShare (GF m ρ c) (SF m ρ c)
/-- What copy `t` sent by `c` needs of its destination. -/
def dstAny (c : Dev nD) (t : TX) : sProp 𝕄 := iprop(∃ f0, ∃ f1, part (F := F) (dst t.1 c) t c fullShare f0 f1)

/-- Which neighbour's signal brings the destinations of a copy of this kind. -/
def bk : Fin 8 → Fin 4 := ![0, 0, 2, 2, 3, 3, 2, 3]

/-- Handed by a neighbour's signal to `c`. -/
def barPay (c : Dev nD) (d : Fin 4) : sProp 𝕄 := bigSep (Finset.univ.filter fun t : TX => bk t.1 = d) (dstAny (F := F) c)

/-- The slot local copy `i` moves. -/
def cpSlot (i : Fin 4) (c : Dev nD) : ℕ := (yC c + 4 - i.val) % 4

/-- Handed by local copy `i`: the columns of the result, and its source back. -/
def cpPay (c : Dev nD) (i : Fin 4) : sProp 𝕄 :=
  iprop((((c : Thread nD τ).loc main_v1) ↦[oReg (cpSlot i c)]{fullShare} OUT m ρ c)
    ∗ (((c : Thread nD τ).loc cc0_scratch2) ↦[gReg (cpSlot i c) 0 8]{fullShare} STF m ρ c))

def dmaPay (c : Dev nD) : Option KS → sProp 𝕄
  | none => iprop(emp)
  | some (.inl i) => cpPay m ρ c i
  | some (.inr (t, false)) => sndPay m ρ c t
  | some (.inr (t, true)) => rcvPay m ρ c t

def dmaAmt : Option KS → ℕ
  | none => 1
  | some (.inl _) => NC
  | some (.inr (t, _)) => NN t.1

instance part_storable (c : Dev nD) (t : TX) (s : Dev nD) (q) (f0) (f1) :
    BI.Storable (upEmb : UEmb _ 𝕄) (part (F := F) c t s q f0 f1) := by
  unfold part; split <;> infer_instance
instance dstAny_storable (c : Dev nD) (t : TX) : BI.Storable (upEmb : UEmb _ 𝕄) (dstAny (F := F) c t) := by
  unfold dstAny; infer_instance
instance barPay_storable (c : Dev nD) (d : Fin 4) : BI.Storable (upEmb : UEmb _ 𝕄) (barPay (F := F) c d) := by
  unfold barPay; infer_instance
instance dmaPay_storable (c : Dev nD) (k : Option KS) : BI.Storable (upEmb : UEmb _ 𝕄) (dmaPay m ρ c k) := by
  match k with
  | none => unfold dmaPay; infer_instance
  | some (.inl i) => unfold dmaPay cpPay; infer_instance
  | some (.inr (t, false)) => unfold dmaPay sndPay; infer_instance
  | some (.inr (t, true)) => unfold dmaPay rcvPay; infer_instance

/-! ## The schedule -/

def dutiesOf : SemLoc sig → Finset (Fin 4)
  | .reg _ => Finset.univ
  | .dma q => if (dec q).isSome then {0} else ∅
def amountOf : SemLoc sig → ℕ
  | .reg _ => 1
  | .dma q => dmaAmt (dec q)
def payOf (c : Dev nD) (d : Fin 4) : SemLoc sig → sProp 𝕄
  | .reg _ => barPay c d
  | .dma q => dmaPay m ρ c (dec q)

/-- Every semaphore has one round: the barrier's four signals, and one copy for each of the others. -/
def rd : Rounds.Schedule (GSem nD τ sig) (Fin 4) 𝕄 where
  duties g r := if r = 0 ∧ g.1.2 = .tc then dutiesOf g.2 else ∅
  unitless _ := False
  amount g _ _ := amountOf g.2
  payload g _ d := payOf m ρ g.1.1 d g.2
  amount_pos g _ _ _ := by
    rcases g with ⟨_, _ | q⟩
    · exact Nat.one_pos
    · show 0 < dmaAmt (dec q)
      match dec q with
      | none => exact Nat.one_pos
      | some (.inl _) => exact NC_pos
      | some (.inr (t, _)) => exact NN_pos t.1

instance rd_storable (g : GSem nD τ sig) (r : ℕ) (d : Fin 4) : BI.Storable (upEmb : UEmb _ 𝕄) ((rd (F := F) m ρ).payload g r d) := by
  show BI.Storable upEmb (payOf m ρ g.1.1 d g.2)
  rcases g with ⟨_, _ | q⟩ <;> (unfold payOf; infer_instance)

section Facts
variable (c : Dev nD)

theorem duties_own (k : KS) : (rd (F := F) m ρ).duties (cell c (some k)) 0 = {0} := by
  show (if (dec (enc k)).isSome then ({0} : Finset (Fin 4)) else ∅) = {0}
  rw [dec_enc]; rfl

theorem duties_bar : (rd (F := F) m ρ).duties (barCell c) 0 = Finset.univ := rfl

theorem duties_later (g : GSem nD τ sig) : ∀ r, 1 ≤ r → (rd (F := F) m ρ).duties g r = ∅ :=
  fun r hr => by dsimp only [rd]; rw [if_neg fun h => by omega]

theorem amount_own (k : KS) (d : Fin 4) : (rd (F := F) m ρ).amount (cell c (some k)) 0 d = dmaAmt (some k) := by
  show dmaAmt (dec (enc k)) = _
  rw [dec_enc]

theorem amount_bar (d : Fin 4) : (rd (F := F) m ρ).amount (barCell c) 0 d = 1 := rfl

theorem payload_own (k : KS) (d : Fin 4) : (rd (F := F) m ρ).payload (cell c (some k)) 0 d = dmaPay m ρ c (some k) := by
  show dmaPay m ρ c (dec (enc k)) = _
  rw [dec_enc]

theorem payload_bar (d : Fin 4) : (rd (F := F) m ρ).payload (barCell c) 0 d = barPay c d := rfl

theorem expect_own (k : KS) : (rd (F := F) m ρ).expect (cell c (some k)) 0 = dmaAmt (some k) := by
  unfold Schedule.expect Schedule.amountOf
  rw [duties_own, Finset.sum_singleton, amount_own]

theorem expect_bar : (rd (F := F) m ρ).expect (barCell c) 0 = 4 := by
  unfold Schedule.expect Schedule.amountOf
  rw [duties_bar, Finset.sum_congr rfl fun d _ => amount_bar m ρ c d]
  rfl

theorem rest_own (k : KS) :
    bigSep ((rd (F := F) m ρ).duties (cell c (some k)) 0 \ ∅) (fun d => (rd (F := F) m ρ).payload (cell c (some k)) 0 d)
      = dmaPay m ρ c (some k) := by
  rw [Finset.sdiff_empty, duties_own, bigSep_singleton, payload_own]

/-- After the barrier a device holds the destinations of all its copies. -/
theorem rest_bar :
    bigSep ((rd (F := F) m ρ).duties (barCell c) 0 \ ∅) (fun d => (rd (F := F) m ρ).payload (barCell c) 0 d)
      ⊢ bigSep Finset.univ (dstAny (F := F) c) := by
  rw [Finset.sdiff_empty, duties_bar, bigSep_congr fun d _ => payload_bar m ρ c d]
  unfold barPay
  refine (bigSep_biUnion Finset.univ fun d : Fin 4 => Finset.univ.filter fun t : TX => bk t.1 = d).trans
    (Entails.of_eq (congrArg (fun S => bigSep S (dstAny (F := F) c)) ?_))
  ext t
  simp

end Facts

/-! ## The order of the copies, what is owed, the levels -/

/-- The copies in the order they are sent. -/
def order : List TX :=
  [(1, 0), (0, 0), (3, 0), (2, 0), (4, 0), (5, 0), (1, 1), (0, 1), (6, 0), (7, 0), (3, 1), (2, 1), (4, 1), (5, 1),
    (1, 2), (0, 2), (6, 1), (7, 1), (3, 2), (2, 2), (4, 2), (5, 2), (6, 2), (7, 2)]

theorem order_nodup : order.Nodup := by decide
theorem mem_order : ∀ t : TX, t ∈ order := by decide

/-- The place of a copy in that order. -/
def pos (t : TX) : ℕ := order.idxOf t

/-- What a device owes for the copies of a list. -/
def owesFor (c : Dev nD) : List TX → CellTallies nD τ sig Unit
  | [] => 0
  | t :: l => owesFor c l + tallyAt (rcvCell (dst t.1 c) t) () (NN t.1)

/-- What a device owes when `n` copies are sent. -/
def owed (c : Dev nD) (n : ℕ) : CellTallies nD τ sig Unit := owesFor c (order.drop n)

def O₃ (c : Dev nD) : CellTallies nD τ sig Unit := owed c 0 + tallyAt (barCell (pz c)) () 1
def O₂ (c : Dev nD) : CellTallies nD τ sig Unit := O₃ c + tallyAt (barCell (px c)) () 1
def O₁ (c : Dev nD) : CellTallies nD τ sig Unit := O₂ c + tallyAt (barCell (right c)) () 1
/-- What a device owes at the start. -/
def O₀ (c : Dev nD) : CellTallies nD τ sig Unit := O₁ c + tallyAt (barCell (left c)) () 1

def L (g : GSem nD τ sig) : Finset Unit := if g.1.2 = .tc then {()} else ∅

def lvOf : SemLoc sig → ℕ
  | .reg _ => 1
  | .dma q => match dec q with
    | some (.inr (t, true)) => 2 + pos t
    | _ => 0
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl

theorem lvOf_rcv (t : TX) : lvOf (csem (some (.inr (t, true)))) = 2 + pos t := by
  show (match dec (enc (.inr (t, true))) with
    | some (.inr (t, true)) => 2 + pos t
    | _ => 0) = _
  rw [dec_enc]

theorem owesFor_pos {c : Dev nD} {l : List TX} {g : GSem nD τ sig} {u : Unit} (h : 0 < owesFor c l g u) :
    ∃ t ∈ l, g = rcvCell (dst t.1 c) t := by
  induction l with
  | nil => exact absurd h (Nat.lt_irrefl 0)
  | cons t l ih =>
    unfold owesFor at h
    rw [Pi.add_apply, Finsupp.add_apply, tallyAt_apply] at h
    by_cases hg : g = rcvCell (dst t.1 c) t
    · exact ⟨t, List.mem_cons_self, hg⟩
    · rw [if_neg (fun h' => hg h'.1), Nat.add_zero] at h
      obtain ⟨t', ht', e⟩ := ih h
      exact ⟨t', List.mem_cons_of_mem _ ht', e⟩

/-- A wait below every copy still to be sent. -/
theorem mayWait_owed (c : Dev nD) (sm : SemLoc sig) (n : ℕ) (h : ∀ t ∈ order.drop n, lvOf sm < 2 + pos t) :
    (levAts L lv : sProp 𝕄) ⊢ MayWait (c : Thread nD τ) sm () (owed c n) :=
  MayOwe.of_cut (L := L) (lev := lv) (lvOf sm)
    (fun p hp => by rw [Finset.mem_singleton.mp hp, L_tc]; exact Finset.mem_singleton_self _)
    (fun g u hg => by obtain ⟨t, _, rfl⟩ := owesFor_pos hg; exact Finset.mem_singleton_self _)
    (fun p hp => by rw [Finset.mem_singleton.mp hp]; exact le_refl _)
    (fun g u hg => by
      obtain ⟨t, ht, rfl⟩ := owesFor_pos hg
      show lvOf sm < lvOf (csem (some (.inr (t, true))))
      rw [lvOf_rcv]
      exact h t ht)

theorem O₀_pos {c : Dev nD} {g : GSem nD τ sig} {u : Unit} (h : 0 < O₀ c g u) :
    (∃ t, g = rcvCell (dst t.1 c) t) ∨ ∃ d, g = barCell d := by
  by_contra hn
  rw [not_or, not_exists, not_exists] at hn
  unfold O₀ O₁ O₂ O₃ at h
  rw [Pi.add_apply, Finsupp.add_apply, Pi.add_apply, Finsupp.add_apply, Pi.add_apply, Finsupp.add_apply, Pi.add_apply,
    Finsupp.add_apply, tallyAt_apply, tallyAt_apply, tallyAt_apply, tallyAt_apply, if_neg (fun h' => hn.2 _ h'.1),
    if_neg (fun h' => hn.2 _ h'.1), if_neg (fun h' => hn.2 _ h'.1), if_neg (fun h' => hn.2 _ h'.1)] at h
  obtain ⟨t, _, e⟩ := owesFor_pos (show 0 < owesFor c (order.drop 0) g u by unfold owed at h; omega)
  exact hn.1 t e

/-- The waits of the staged copies of the arguments. -/
theorem mayWait_stage (c : Dev nD) (q : DmaSem sig) (hq : lvOf (.dma q) = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨t, rfl⟩ | ⟨d, rfl⟩ <;> exact Finset.mem_singleton_self _)
      (fun p hp => by rw [Finset.mem_singleton.mp hp]; exact le_of_eq hq)
      (fun g u hg => by
        rcases O₀_pos hg with ⟨t, rfl⟩ | ⟨d, rfl⟩
        · show 0 < lvOf (csem (some (.inr (t, true))))
          rw [lvOf_rcv]; omega
        · exact Nat.one_pos)
  · rw [MayWait_zero]; iintro -; iempintro

end Cert.Proof.Run

end
-- ==== Proof.Contents.lean ====
/-
What the loads read, what the stores and copies leave, as equations on contents.
-/
module

public import proofs.«01_k».proof.Proof.Sched
public import Idealize.ShloMosaic.Lib.Pipeline.Value

@[expose] public section

noncomputable section

namespace Cert.Proof.Run

open Cert.KernelIdeal Cert.KernelIdeal.Gen
open Idealize.ShloMosaic
open Idealize.ShloMosaic.TcCoe

variable {F : FTy → Type} [FloatOps F]
variable (m : (ℓ : Loc nD τ sig) → Buf (Elt F) ℓ) (ρ : Dev nD → PrngReg)

/-! ## Boxes and indices -/

theorem inSlot_atSlot (s : ℕ) (j : S1x256x4096.Idx) : inSlot (atSlot s j) = j := by
  funext a
  match a with
  | 0 => exact Fin.ext (by have : (j 0).val < 1 := (j 0).isLt; show 0 = (j 0).val; omega)
  | 1 => rfl
  | 2 => rfl

theorem atSlot_inSlot {s : ℕ} (hs : s < 4) {i : S4x256x4096.Idx} (h : (i 0).val = s) : atSlot s (inSlot i) = i := by
  funext a
  match a with
  | 0 => exact Fin.ext (by show s % 4 = (i 0).val; omega)
  | 1 => rfl
  | 2 => rfl

/-- The element of the buffer under an element of the box of slot `s`. -/
theorem slot_emb {s : ℕ} (hs : s < 4) {off : Fin 3 → ℕ} {inb : ∀ a, off a + S1x256x4096.size a ≤ S4x256x4096.size a}
    (h : off = ![s, 0, 0]) (j : S1x256x4096.Idx) :
    (Rect.unit (s := S4x256x4096) off S1x256x4096.size inb).emb j = atSlot s j := by
  subst h
  funext a
  refine Fin.ext ?_
  rw [Rect.emb_apply]
  have h0 : (j 0).val < 1 := (j 0).isLt
  match a with
  | 0 => show s + 1 * (j 0).val = s % 4; omega
  | 1 => show 0 + 1 * (j 1).val = (j 1).val; omega
  | 2 => show 0 + 1 * (j 2).val = (j 2).val; omega

theorem slot_set {s : ℕ} {off : Fin 3 → ℕ} {inb : ∀ a, off a + S1x256x4096.size a ≤ S4x256x4096.size a}
    (h : off = ![s, 0, 0]) : (Rect.unit (s := S4x256x4096) off S1x256x4096.size inb).set = gReg s 0 8 :=
  rect_set h rfl

/-! ## Writing back what was read -/

/-- A copy between the same place of two buffers. -/
theorem write_read_same {κ : Kind} {sp : Space} {s : Shape} {e : EltTy} (v : View sig κ sp s e) (fd fs : v.ty.Contents (Elt F)) :
    ∀ i ∈ v.set, v.write (Elt F) fd (v.read (Elt F) fs) Finset.univ i = fs i := by
  intro i hi
  obtain ⟨j, rfl⟩ := View.exists_emb_of_mem_set v hi
  rw [View.write_emb_of_mem _ _ (Finset.mem_univ j), View.read_apply, cast_cast, cast_eq]

/-! ## Slots of the gather and staging buffers -/

theorem store_gather {s : ℕ} (hs : s < 4) {off : Fin 3 → ℕ} {inb : ∀ a, off a + S1x256x4096.size a ≤ S4x256x4096.size a}
    (h : off = ![s, 0, 0]) (f : (cc0_scratch0 : Ref sig .tc).ty.Contents (Elt F)) (w : S1x256x4096.Idx → Elt F .bf16) :
    ∀ i ∈ gReg s 0 8, ((Memref.whole cc0_scratch0).access (Rect.unit (s := S4x256x4096) off S1x256x4096.size inb)).write (Elt F) f w Finset.univ i
      = w (inSlot i) := by
  intro i hi
  rw [← slot_set (inb := inb) h, ← View.set_slice_whole (κ := .tc) cc0_scratch0] at hi
  obtain ⟨j, rfl⟩ := View.exists_emb_of_mem_set _ hi
  refine (View.write_emb_of_mem (v := (View.whole cc0_scratch0).slice (Rect.unit (s := S4x256x4096) off S1x256x4096.size inb)) _ _ (Finset.mem_univ j)).trans ?_
  show w j = w (inSlot ((Rect.unit (s := S4x256x4096) off S1x256x4096.size inb).emb j))
  rw [slot_emb hs h, inSlot_atSlot]

theorem store_stage {s : ℕ} (hs : s < 4) {off : Fin 3 → ℕ} {inb : ∀ a, off a + S1x256x4096.size a ≤ S4x256x4096.size a}
    (h : off = ![s, 0, 0]) (f : (cc0_scratch2 : Ref sig .tc).ty.Contents (Elt F)) (w : S1x256x4096.Idx → Elt F .f32) :
    ∀ i ∈ gReg s 0 8, ((Memref.whole cc0_scratch2).access (Rect.unit (s := S4x256x4096) off S1x256x4096.size inb)).write (Elt F) f w Finset.univ i
      = w (inSlot i) := by
  intro i hi
  rw [← slot_set (inb := inb) h, ← View.set_slice_whole (κ := .tc) cc0_scratch2] at hi
  obtain ⟨j, rfl⟩ := View.exists_emb_of_mem_set _ hi
  refine (View.write_emb_of_mem (v := (View.whole cc0_scratch2).slice (Rect.unit (s := S4x256x4096) off S1x256x4096.size inb)) _ _ (Finset.mem_univ j)).trans ?_
  show w j = w (inSlot ((Rect.unit (s := S4x256x4096) off S1x256x4096.size inb).emb j))
  rw [slot_emb hs h, inSlot_atSlot]

theorem load_gather {s : ℕ} (hs : s < 4) {off : Fin 3 → ℕ} {inb : ∀ a, off a + S1x256x4096.size a ≤ S4x256x4096.size a}
    (h : off = ![s, 0, 0]) (f : (cc0_scratch0 : Ref sig .tc).ty.Contents (Elt F)) :
    (Memref.whole cc0_scratch0).view.readAt (Elt F) (Rect.unit (s := S4x256x4096) off S1x256x4096.size inb).toLoadRect f
      = fun j : S1x256x4096.Idx => f (atSlot s j) := by
  funext j
  show f ((Rect.unit (s := S4x256x4096) off S1x256x4096.size inb).emb j) = _
  rw [slot_emb hs h]

theorem load_stage {s : ℕ} (hs : s < 4) {off : Fin 3 → ℕ} {inb : ∀ a, off a + S1x256x4096.size a ≤ S4x256x4096.size a}
    (h : off = ![s, 0, 0]) (f : (cc0_scratch2 : Ref sig .tc).ty.Contents (Elt F)) :
    (Memref.whole cc0_scratch2).view.readAt (Elt F) (Rect.unit (s := S4x256x4096) off S1x256x4096.size inb).toLoadRect f
      = fun j : S1x256x4096.Idx => f (atSlot s j) := by
  funext j
  show f ((Rect.unit (s := S4x256x4096) off S1x256x4096.size inb).emb j) = _
  rw [slot_emb hs h]

/-! ## The statistics buffer -/

/-- Columns `k` of slot `s`. -/
def cReg (s k : ℕ) : Finset S4x256x2.Idx := Finset.univ.filter fun i => (i 0).val = s ∧ (i 2).val = k

theorem mem_cReg {s k : ℕ} {i : S4x256x2.Idx} : i ∈ cReg s k ↔ (i 0).val = s ∧ (i 2).val = k := by simp [cReg]

theorem col_set {s k : ℕ} {off : Fin 3 → ℕ} {inb : ∀ a, off a + S1x256x1.size a ≤ S4x256x2.size a} (h : off = ![s, 0, k]) :
    (Rect.unit (s := S4x256x2) off S1x256x1.size inb).set = cReg s k := by
  subst h
  ext i
  rw [Rect.mem_set_unit, cReg, Finset.mem_filter]
  have h1 : (i 1).val < 256 := (i 1).isLt
  constructor
  · intro h
    have a0 := h 0
    have a2 := h 2
    simp at a0 a2
    exact ⟨Finset.mem_univ _, by omega, by omega⟩
  · rintro ⟨-, a0, a2⟩ a
    fin_cases a <;> simp <;> omega

theorem cReg_subset (s k : ℕ) : cReg s k ⊆ sReg s := fun i hi => mem_sReg.mpr (Finset.mem_filter.mp hi).2.1

theorem store_col {s k : ℕ} {off : Fin 3 → ℕ} {inb : ∀ a, off a + S1x256x1.size a ≤ S4x256x2.size a}
    (h : off = ![s, 0, k]) (f : (cc0_scratch1 : Ref sig .tc).ty.Contents (Elt F)) (w : S1x256x1.Idx → Elt F .f32) (i : S4x256x2.Idx) :
    ((Memref.whole cc0_scratch1).access (Rect.unit (s := S4x256x2) off S1x256x1.size inb)).write (Elt F) f w Finset.univ i
      = if i ∈ cReg s k then w (statIn i) else f i := by
  split
  · rename_i hi
    rw [← col_set (inb := inb) h, ← View.set_slice_whole (κ := .tc) cc0_scratch1] at hi
    obtain ⟨j, rfl⟩ := View.exists_emb_of_mem_set _ hi
    refine (View.write_emb_of_mem (v := (View.whole cc0_scratch1).slice (Rect.unit (s := S4x256x2) off S1x256x1.size inb)) _ _ (Finset.mem_univ j)).trans ?_
    show w j = w (statIn ((Rect.unit (s := S4x256x2) off S1x256x1.size inb).emb j))
    refine congrArg w (funext fun a => Fin.ext ?_)
    subst h
    have h0 : (j 0).val < 1 := (j 0).isLt
    have h2 : (j 2).val < 1 := (j 2).isLt
    match a with
    | 0 => show (j 0).val = 0; omega
    | 1 => show (j 1).val = 0 + 1 * (j 1).val; omega
    | 2 => show (j 2).val = 0; omega
  · rename_i hi
    refine View.write_of_not_mem (v := (View.whole cc0_scratch1).slice (Rect.unit (s := S4x256x2) off S1x256x1.size inb)) _ _ _ ?_
    rw [View.setOn_univ, View.set_slice_whole, col_set h]
    exact hi

theorem onRing_self (c : Dev nD) : onRing c (yC c) = c := by revert c; decide +kernel

/-- The two columns a device writes into its own slot. -/
theorem store_stats (c : Dev nD) {o2 o3 : Fin 3 → ℕ} {i2 : ∀ a, o2 a + S1x256x1.size a ≤ S4x256x2.size a}
    {i3 : ∀ a, o3 a + S1x256x1.size a ≤ S4x256x2.size a} (h2 : o2 = ![yC c, 0, 0]) (h3 : o3 = ![yC c, 0, 1])
    (f : (cc0_scratch1 : Ref sig .tc).ty.Contents (Elt F)) :
    ∀ i ∈ sReg (yC c),
      ((Memref.whole cc0_scratch1).access (Rect.unit (s := S4x256x2) o3 S1x256x1.size i3)).write (Elt F)
        (((Memref.whole cc0_scratch1).access (Rect.unit (s := S4x256x2) o2 S1x256x1.size i2)).write (Elt F) f (k0_pay7 (lgt m ρ c)) Finset.univ)
        (k0_pay8 (lgt m ρ c)) Finset.univ i = SF m ρ c i := by
  intro i hi
  rw [mem_sReg] at hi
  have hb : (i 2).val < 2 := (i 2).isLt
  rw [store_col h3, store_col h2]
  unfold SF
  dsimp only
  rw [hi, onRing_self]
  by_cases hk : (i 2).val = 0
  · rw [if_neg (fun h => by have := (mem_cReg.mp h).2; omega),
      if_pos (mem_cReg.mpr ⟨hi, hk⟩), if_pos hk]
  · rw [if_pos (mem_cReg.mpr ⟨hi, by omega⟩), if_neg hk]

theorem load_maxs (c : Dev nD) {inb : ∀ a, (![0, 0, 0] : Fin 3 → ℕ) a + S4x256x1.size a ≤ S4x256x2.size a} :
    (Memref.whole cc0_scratch1).view.readAt (Elt F) (Rect.unit (s := S4x256x2) ![0, 0, 0] S4x256x1.size inb).toLoadRect (SF m ρ c)
      = maxs m ρ c := by
  funext j
  show SF m ρ c ((Rect.unit (s := S4x256x2) ![0, 0, 0] S4x256x1.size inb).emb j) = SF m ρ c (statAt 0 j)
  refine congrArg _ (funext fun a => Fin.ext ?_)
  rw [Rect.emb_apply]
  have h2 : (j 2).val < 1 := (j 2).isLt
  match a with
  | 0 => show 0 + 1 * (j 0).val = (j 0).val; omega
  | 1 => show 0 + 1 * (j 1).val = (j 1).val; omega
  | 2 => show 0 + 1 * (j 2).val = 0; omega

theorem load_sums (c : Dev nD) {inb : ∀ a, (![0, 0, 1] : Fin 3 → ℕ) a + S4x256x1.size a ≤ S4x256x2.size a} :
    (Memref.whole cc0_scratch1).view.readAt (Elt F) (Rect.unit (s := S4x256x2) ![0, 0, 1] S4x256x1.size inb).toLoadRect (SF m ρ c)
      = sums m ρ c := by
  funext j
  show SF m ρ c ((Rect.unit (s := S4x256x2) ![0, 0, 1] S4x256x1.size inb).emb j) = SF m ρ c (statAt 1 j)
  refine congrArg _ (funext fun a => Fin.ext ?_)
  rw [Rect.emb_apply]
  have h2 : (j 2).val < 1 := (j 2).isLt
  match a with
  | 0 => show 0 + 1 * (j 0).val = (j 0).val; omega
  | 1 => show 0 + 1 * (j 1).val = (j 1).val; omega
  | 2 => show 1 + 1 * (j 2).val = 1; omega

/-! ## The own slots -/

/-- The gather buffer's own slot, as stored. -/
theorem GF_own (c : Dev nD) : ∀ i ∈ gReg (yC c) 0 8, k0_pay3 (k0_pay2 (xIn m ρ c) (wIn m ρ c)) (inSlot i) = GF m ρ c i := by
  intro i hi
  rw [mem_gReg] at hi
  unfold GF org
  dsimp only
  rw [if_pos hi.1]

theorem STF_slot (c : Dev nD) (s : ℕ) : ∀ i ∈ gReg s 0 8, stRow m ρ c s (inSlot i) = STF m ρ c i := by
  intro i hi
  rw [mem_gReg] at hi
  unfold STF
  rw [hi.1]

theorem stRow_own (c : Dev nD) : stRow m ρ c (yC c)
    = k0_pay12 (k0_pay11 (k0_pay4 (lgt m ρ c)) (maxs m ρ c) (sums m ρ c) (k0_pay6 (lgt m ρ c))) := if_pos rfl

theorem stRow_other (c : Dev nD) (s : ℕ) (h : s ≠ yC c) : stRow m ρ c s
    = k0_pay14 (k0_pay13 (k0_pay9 (maxs m ρ c)) (k0_pay10 (maxs m ρ c) (sums m ρ c)) (gRow m ρ c s)) := if_neg h

/-! ## The remote copies keep the contents -/

theorem org_copy : ∀ (c : Dev nD) (t : TX), t.1 ≠ 1 → ∀ e : Fin 8, loE t.1 c ≤ e.val → e.val < loE t.1 c + nE t.1 →
    org c (slotN t c) e.val = org (dst t.1 c) (slotN t c) e.val := by decide +kernel

theorem GF_copy (c : Dev nD) (t : TX) (ht : t.1 ≠ 1) :
    ∀ i ∈ gReg (slotN t c) (loE t.1 c) (nE t.1), GF m ρ c i = GF m ρ (dst t.1 c) i := by
  intro i hi
  rw [mem_gReg] at hi
  have h1 : (i 1).val < 256 := (i 1).isLt
  unfold GF
  dsimp only
  rw [hi.1]
  have := org_copy c t ht ⟨(i 1).val / 32, by omega⟩ (by show loE t.1 c ≤ (i 1).val / 32; omega)
    (by show (i 1).val / 32 < loE t.1 c + nE t.1; omega)
  dsimp only at this
  rw [this]

theorem onRing_right : ∀ (c : Dev nD) (s : Fin 4), onRing c s.val = onRing (right c) s.val := by decide +kernel

theorem SF_right (c : Dev nD) : SF m ρ (right c) = SF m ρ c := by
  funext i
  unfold SF
  dsimp only
  rw [← onRing_right c (i 0)]

/-! ## The local copies -/

theorem load_out {c : Dev nD} {s : ℕ} (hs : s < 4) {off : Fin 2 → ℕ} {inb : ∀ a, off a + S256x4096.size a ≤ S256x16384.size a}
    (h : off = ![0, 4096 * s]) (j : S256x4096.Idx) :
    OUT m ρ c ((Rect.unit (s := S256x16384) off S256x4096.size inb).emb j)
      = STF m ρ c (atSlot s (fun a => match a with
        | 0 => ⟨0, Nat.zero_lt_one⟩ | 1 => ⟨(j 0).val, (j 0).isLt⟩ | 2 => ⟨(j 1).val, (j 1).isLt⟩)) := by
  unfold OUT
  refine congrArg _ (funext fun a => Fin.ext ?_)
  subst h
  have h1 : (j 1).val < 4096 := (j 1).isLt
  match a with
  | 0 => show (4096 * s + 1 * (j 1).val) / 4096 % 4 = s % 4; omega
  | 1 => show 0 + 1 * (j 0).val = (j 0).val; omega
  | 2 => show (4096 * s + 1 * (j 1).val) % 4096 = (j 1).val; omega

/-- A local copy of a slot of the staging buffer leaves the columns of the result. -/
theorem copy_out (c : Dev nD) {s : ℕ} (hs : s < 4) {off : Fin 2 → ℕ} {inb : ∀ a, off a + S256x4096.size a ≤ S256x16384.size a}
    (h : off = ![0, 4096 * s]) {off' : Fin 3 → ℕ} {inb' : ∀ a, off' a + S1x256x4096.size a ≤ S4x256x4096.size a} (h' : off' = ![s, 0, 0])
    {hr} {hq} (fd : (main_v1 : Ref sig .tc).ty.Contents (Elt F)) :
    ∀ i ∈ oReg s, ((View.whole main_v1).slice (Rect.unit (s := S256x16384) off S256x4096.size inb)).write (Elt F) fd
        ((((Memref.whole cc0_scratch2).slice (Rect.unit (s := S4x256x4096) off' S1x256x4096.size inb') hr).squeeze S256x4096 hq).view.read (Elt F) (STF m ρ c))
        Finset.univ i = OUT m ρ c i := by
  intro i hi
  rw [← orect_set (inb := inb) h, ← View.set_slice_whole (κ := .tc) main_v1] at hi
  obtain ⟨j, rfl⟩ := View.exists_emb_of_mem_set _ hi
  refine (View.write_emb_of_mem (v := (View.whole main_v1).slice (Rect.unit (s := S256x16384) off S256x4096.size inb)) _ _ (Finset.mem_univ j)).trans ?_
  show (((Memref.whole cc0_scratch2).slice (Rect.unit (s := S4x256x4096) off' S1x256x4096.size inb') hr).squeeze S256x4096 hq).view.read (Elt F) (STF m ρ c) j
    = OUT m ρ c ((Rect.unit (s := S256x16384) off S256x4096.size inb).emb j)
  rw [Memref.read_squeeze_slice _ _ _ _ shapeCasts_S1x256x4096_S256x4096, load_stage hs h', load_out m ρ hs h]
  refine (shapeCast_dropUnit_apply ![256, 4096] _ shapeCasts_S1x256x4096_S256x4096 j).trans ?_
  refine congrArg (fun x => STF m ρ c (atSlot s x)) (funext fun a => ?_)
  match a with
  | 0 => rfl
  | 1 => rfl
  | 2 => rfl

end Cert.Proof.Run

end
-- ==== Proof.Steps.lean ====
/-
One rule per kind of step of the kernel: a signal, a remote copy, a wait for a copy received or sent, a
local copy.  What a device still has to pay and to collect is kept in one ledger.
-/
module

public import proofs.«01_k».proof.Proof.Contents

@[expose] public section

noncomputable section

namespace Cert.Proof.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## Lists of resources -/

/-- The resources of the members of a list, together. -/
def bigL {A : Type} (l : List A) (Φ : A → sProp 𝕄) : sProp 𝕄 := l.foldr (fun a P => iprop(Φ a ∗ P)) iprop(emp)

omit [FloatOps F] in
theorem bigL_cons {A : Type} (a : A) (l : List A) (Φ : A → sProp 𝕄) : bigL (a :: l) Φ = iprop(Φ a ∗ bigL l Φ) := rfl

omit [FloatOps F] in
theorem bigL_snoc {A : Type} (l : List A) (a : A) (Φ : A → sProp 𝕄) : iprop(Φ a ∗ bigL l Φ) ⊢ bigL (l ++ [a]) Φ := by
  induction l with
  | nil => exact BI.Entails.refl _
  | cons b l ih =>
    rw [List.cons_append, bigL_cons, bigL_cons]
    iintro ⟨Ha, Hb, Hl⟩
    isplitl [Hb]; · iexact Hb
    iapply ih
    isplitl [Ha] <;> iassumption

omit [FloatOps F] in
theorem bigL_eq {A : Type} [DecidableEq A] (l : List A) (hl : l.Nodup) (Φ : A → sProp 𝕄) : bigL l Φ = bigSep l.toFinset Φ := by
  induction l with
  | nil => exact bigSep_empty.symm
  | cons a l ih =>
    rw [List.nodup_cons] at hl
    rw [bigL_cons, ih hl.2, List.toFinset_cons, bigSep_insert (fun h => hl.1 (List.mem_toFinset.mp h))]
    rfl

omit [FloatOps F] in
theorem bigL_univ {A : Type} [DecidableEq A] [Fintype A] (l : List A) (hl : l.Nodup) (hm : ∀ a, a ∈ l) (Φ : A → sProp 𝕄) :
    bigL l Φ = bigSep Finset.univ Φ := by
  rw [bigL_eq l hl]
  congr 1
  ext a
  simp [hm a]

/-! ## The records every device holds -/

/-- The level of every semaphore. -/
@[irreducible] def lvAll : sProp 𝕄 := levAts L lv

instance lvAll_persistent : BI.Persistent (lvAll (F := F)) := by unfold lvAll; infer_instance

theorem lvAll_mayWait (c : Dev nD) (sm : SemLoc sig) (n : ℕ) (h : ∀ t ∈ order.drop n, lvOf sm < 2 + pos t) :
    lvAll (F := F) ⊢ MayWait (c : Thread nD τ) sm () (owed c n) := by
  unfold lvAll
  exact mayWait_owed c sm n h

/-- Every semaphore's invariant and that its round has begun, and the levels. -/
def recs (K : Dev nD × Option KS → ℕ) : sProp 𝕄 :=
  iprop((bigSep Finset.univ fun ck : Dev nD × Option KS => cellInv ER (rd m ρ) (K ck) (cell ck.1 ck.2))
    ∗ (bigSep Finset.univ fun ck : Dev nD × Option KS => reached ER (cell ck.1 ck.2) 0) ∗ lvAll (F := F))

instance recs_persistent (K : Dev nD × Option KS → ℕ) : BI.Persistent (recs m ρ K) := by unfold recs; infer_instance

theorem recs_inv (K : Dev nD × Option KS → ℕ) (c : Dev nD) (k : Option KS) :
    recs m ρ K ⊢ cellInv ER (rd m ρ) (K (c, k)) (cell c k) := by
  have h : (bigSep Finset.univ fun ck : Dev nD × Option KS => (cellInv ER (rd m ρ) (K ck) (cell ck.1 ck.2) : sProp 𝕄))
      ⊢ cellInv ER (rd m ρ) (K (c, k)) (cell c k) := bigSep_elim (Finset.mem_univ (c, k))
  unfold recs
  iintro ⟨HI, -, -⟩
  iapply h
  iexact HI

theorem recs_reached (K : Dev nD × Option KS → ℕ) (c : Dev nD) (k : Option KS) :
    recs m ρ K ⊢ reached ER (cell c k) 0 := by
  have h : (bigSep Finset.univ fun ck : Dev nD × Option KS => (reached ER (cell ck.1 ck.2) 0 : sProp 𝕄))
      ⊢ reached ER (cell c k) 0 := bigSep_elim (Finset.mem_univ (c, k))
  unfold recs
  iintro ⟨-, HI, -⟩
  iapply h
  iexact HI

theorem recs_lev (K : Dev nD × Option KS → ℕ) : recs m ρ K ⊢ lvAll (F := F) := by
  unfold recs
  iintro ⟨-, -, H⟩
  iexact H

/-! ## The ledger -/

/-- To send copy `t`: the rights to pay at both ends, and the sender's place at its own semaphore. -/
def toSend (c : Dev nD) (t : TX) : sProp 𝕄 :=
  iprop(dutyTok ER (sndCell c t) 0 (0 : Fin 4) ∗ dutyTok ER (rcvCell (dst t.1 c) t) 0 (0 : Fin 4) ∗ atPos ER (sndCell c t) 0 ∅ 0)
def ready (c : Dev nD) (t : TX) : sProp 𝕄 := iprop(toSend (F := F) c t ∗ dstAny (F := F) c t)
/-- Copy `t` sent and not yet waited for. -/
def sent (c : Dev nD) (t : TX) : sProp 𝕄 :=
  iprop(atPos ER (sndCell c t) 0 ∅ 0 ∗ cred (tallyAt (sndCell c t) () (NN t.1)))
/-- Copy `t` to be received. -/
def toRecv (c : Dev nD) (t : TX) : sProp 𝕄 :=
  iprop(atPos ER (rcvCell c t) 0 ∅ 0 ∗ cred (tallyAt (rcvCell c t) () (NN t.1)))
def zeroR (c : Dev nD) (t : TX) : sProp 𝕄 := semVal (rcvCell c t) 0
/-- Copy `t` sent and waited for. -/
def doneS (c : Dev nD) (t : TX) : sProp 𝕄 := iprop(semVal (sndCell c t) 0 ∗ sndPay m ρ c t)

/-- The order in which copies received are waited for. -/
def rorder : List TX :=
  [(0, 0), (1, 0), (4, 0), (3, 0), (0, 1), (1, 1), (4, 1), (3, 1), (1, 2), (2, 0), (5, 0), (6, 0), (7, 0), (0, 2), (4, 2),
    (3, 2), (2, 1), (5, 1), (6, 1), (7, 1), (2, 2), (5, 2), (6, 2), (7, 2)]
/-- The order in which copies sent are waited for. -/
def sorder : List TX :=
  [(1, 0), (0, 0), (2, 0), (3, 0), (4, 0), (5, 0), (1, 1), (0, 1), (6, 0), (7, 0), (2, 1), (3, 1), (4, 1), (5, 1), (1, 2),
    (0, 2), (6, 1), (7, 1), (2, 2), (3, 2), (4, 2), (5, 2), (6, 2), (7, 2)]

/-- The ledger of device `c` when `i` copies are sent and `j` are received. -/
def ledger (c : Dev nD) (i j : ℕ) : sProp 𝕄 :=
  iprop((∃ W, owes (c : Thread nD τ) (owed c i) W) ∗ bigL (order.drop i) (ready (F := F) c) ∗ bigL (order.take i) (sent (F := F) c)
    ∗ bigL (rorder.drop j) (toRecv (F := F) c) ∗ bigL (rorder.take j) (zeroR (F := F) c))

/-- The ledger when all is received and `k` of the copies sent are waited for. -/
def ledger₂ (c : Dev nD) (k : ℕ) : sProp 𝕄 :=
  iprop((∃ W, owes (c : Thread nD τ) (0 : CellTallies nD τ sig Unit) W) ∗ bigL (sorder.drop k) (sent (F := F) c) ∗ bigL (sorder.take k) (doneS m ρ c))

theorem take_of_drop {A : Type} {l l' : List A} {i : ℕ} {a : A} (h : l.drop i = a :: l') : l.take (i + 1) = l.take i ++ [a] := by
  rw [List.take_add_one]
  congr 1
  rw [← List.head?_drop, h]
  rfl

/-! ## The steps -/

section Steps

variable (K : Dev nD × Option KS → ℕ)

/-- A signal to the barrier of `d`. -/
theorem step_signal (c n d : Dev nD) (hn : n = d) (u : Fin 4) (O₀ O : CellTallies nD τ sig Unit) (hO : O₀ = O + tallyAt (barCell d) () 1)
    {v : ℤ} (hv : v = ((1 : ℕ) : ℤ)) {q : Sem sig} (hq : q = barS) {α : Type} {Q : α → sProp 𝕄} {W : Waits sig Unit} {k : PUnit → Prog (TpuEff nD τ sig (Elt F) Λ₀ .tc) α} :
    recs m ρ K ⊢ iprop(owes (c : Thread nD τ) O₀ W -∗ dutyTok ER (barCell d) 0 u -∗ barPay (F := F) d u
      -∗ (owes (c : Thread nD τ) O W -∗ wp frame (wpE (defs₀ (F := F)) 𝒱₀ (c : Thread nD τ) none) Set.univ (k ⟨⟩) Q)
      -∗ wp frame (wpE (defs₀ (F := F)) 𝒱₀ (c : Thread nD τ) none) Set.univ (.op (.semSignal (Dev.tc n : Thread nD τ) q v) k) Q) := by
  subst hn hq hv
  iintro #HR HO Ht HP Hk
  iapply (Rounds.wp_signal 𝒱₀ ER (rd m ρ) (c : Thread nD τ) none (dst := (n : Thread nD τ)) (κ := K (n, none))
      (d := u) (by rw [duties_bar]; exact Finset.mem_univ _) (k' := 1) (amount_bar m ρ n u) () O hO)
    $$ [HO Ht HP]
  · isplitr; · iapply (recs_inv m ρ K n none); iexact HR
    isplitl [HO]; · iexact HO
    isplitl [Ht]; · iexact Ht
    isplitl [HP]; · iapply (Entails.of_eq (payload_bar m ρ n u).symm); iexact HP
    iapply (recs_reached m ρ K n none); iexact HR
  iexact Hk

/-- The wait at the barrier. -/
theorem step_barrier (c : Dev nD) {q : Sem sig} (hq : q = barS) {v : ℤ} (hv : v = ((4 : ℕ) : ℤ))
    {α : Type} {Q : α → sProp 𝕄} {W : Waits sig Unit} {k : PUnit → Prog (TpuEff nD τ sig (Elt F) Λ₀ .tc) α} :
    recs m ρ K ⊢ iprop(owes (c : Thread nD τ) (owed c 0) W -∗ atPos ER (barCell c) 0 ∅ 0 -∗ cred (tallyAt (barCell c) () 4)
      -∗ (((∃ W, owes (c : Thread nD τ) (owed c 0) W) ∗ semVal (barCell c) 0 ∗ bigSep Finset.univ (dstAny (F := F) c))
          -∗ wp frame (wpE (defs₀ (F := F)) 𝒱₀ (c : Thread nD τ) none) Set.univ (k ⟨⟩) Q)
      -∗ wp frame (wpE (defs₀ (F := F)) 𝒱₀ (c : Thread nD τ) none) Set.univ (.op (.semWait q v) k) Q) := by
  subst hq hv
  iintro #HR HO Hat Hc Hk
  ihave #HL := (recs_lev m ρ K) $$ HR
  iapply (Rounds.wp_wait_rest_token 𝒱₀ ER (rd m ρ) (c : Thread nD τ) none (κ := K (c, none))
      (wpE_semWait_eq 𝒱₀ (c : Thread nD τ) none Set.univ) (Set.mem_univ _) () (O := owed c 0) (W := W) (R := 0) (m := 0) (T := ∅)
      (expect_bar m ρ c).symm) $$ [Hc HO Hat]
  · isplitr; · iapply (recs_inv m ρ K c none); iexact HR
    isplitl [Hc]; · iexact Hc
    isplitl [HO]; · iexact HO
    isplitr
    · iapply (lvAll_mayWait c (.reg barS) 0 (by
        intro t _
        show 1 < 2 + pos t
        omega))
      iexact HL
    iexact Hat
  iintro ⟨HO, Hat, -, Hpay⟩
  ihave Hp := (rest_bar m ρ c) $$ Hpay
  imod (Rounds.cell_close ER (rd m ρ) (Set.mem_univ (K (c, none))) (fun h => h) (R := 0 + 1) (duties_later m ρ (barCell c))) $$ [Hat] with Hz
  · isplitr; · iapply (recs_inv m ρ K c none); iexact HR
    iexact Hat
  iapply Hk
  isplitl [HO]; · iexists _; iexact HO
  isplitl [Hz] <;> iassumption

/-- A wait for a copy, at any of the kernel's own semaphores. -/
theorem step_wait (c : Dev nD) (e : KS) {q : DmaSem sig} (hq : q = enc e) {O : CellTallies nD τ sig Unit} {W : Waits sig Unit}
    (hM : lvAll (F := F) ⊢ MayWait (c : Thread nD τ) (osem e) () O)
    {sp sp' : Space} {s s' : Shape} {ty ty' : EltTy} {src : Memref sig .tc sp s ty} {dst : Memref sig .tc sp' s' ty'} {h1 h2}
    (hN : dst.view.dmaCredit = dmaAmt (some e))
    {α : Type} {Q : α → sProp 𝕄} {k : PUnit → Prog (TpuEff nD τ sig (Elt F) Λ₀ .tc) α} :
    recs m ρ K ⊢ iprop(owes (c : Thread nD τ) O W -∗ (atPos ER (cell c (some e)) 0 ∅ 0 ∗ cred (tallyAt (cell c (some e)) () (dmaAmt (some e))))
      -∗ (((∃ W, owes (c : Thread nD τ) O W) ∗ semVal (cell c (some e)) 0 ∗ dmaPay m ρ c (some e))
          -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 q src dst h1 h2) k) Q) := by
  subst hq
  iintro #HR HO ⟨Hat, Hc⟩ Hk
  ihave #HL := (recs_lev m ρ K) $$ HR
  iapply (Rounds.wp_wait_rest_token 𝒱₀ ER (rd m ρ) (c : Thread nD τ) none (κ := K (c, some e))
      (wpE_waitDma2_eq 𝒱₀ (c : Thread nD τ) none Set.univ) (Set.mem_univ _) () (O := O) (W := W) (R := 0) (m := 0) (T := ∅)
      ((Nat.zero_add _).trans (hN.trans (expect_own m ρ c e).symm))) $$ [Hc HO Hat]
  · isplitr; · iapply (recs_inv m ρ K c (some e)); iexact HR
    isplitl [Hc]; · rw [hN]; iexact Hc
    isplitl [HO]; · iexact HO
    isplitr
    · iapply hM
      iexact HL
    iexact Hat
  iintro ⟨HO, Hat, -, Hpay⟩
  ihave Hp := (Entails.of_eq (rest_own m ρ c e)) $$ Hpay
  imod (Rounds.cell_close ER (rd m ρ) (Set.mem_univ (K (c, some e))) (fun h => h) (R := 0 + 1) (duties_later m ρ (cell c (some e)))) $$ [Hat] with Hz
  · isplitr; · iapply (recs_inv m ρ K c (some e)); iexact HR
    iexact Hat
  iapply Hk
  isplitl [HO]; · iexists _; iexact HO
  isplitl [Hz] <;> iassumption

/-- The wait for the next copy to be received. -/
theorem step_recv (c : Dev nD) (i j : ℕ) (t : TX) (hj : rorder.drop j = t :: rorder.drop (j + 1))
    (hi : ∀ t' ∈ order.drop i, pos t < pos t') {q : DmaSem sig} (hq : q = enc (.inr (t, true)))
    {sp sp' : Space} {s s' : Shape} {ty ty' : EltTy} {src : Memref sig .tc sp s ty} {dst : Memref sig .tc sp' s' ty'} {h1 h2}
    (hN : dst.view.dmaCredit = NN t.1)
    {α : Type} {Q : α → sProp 𝕄} {k : PUnit → Prog (TpuEff nD τ sig (Elt F) Λ₀ .tc) α} :
    recs m ρ K ⊢ iprop(ledger (F := F) c i j
      -∗ (ledger (F := F) c i (j + 1) -∗ rcvPay m ρ c t
          -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 q src dst h1 h2) k) Q) := by
  unfold ledger
  rw [hj, bigL_cons, take_of_drop hj]
  iintro #HR ⟨⟨%W, HO⟩, Hrd, Hst, ⟨Hr, Hrs⟩, Hz⟩ Hk
  iapply (step_wait m ρ K c (.inr (t, true)) hq (O := owed c i) (W := W)
    (lvAll_mayWait c _ i (fun t' h => by
      show lvOf (csem (some (.inr (t, true)))) < _
      rw [lvOf_rcv]
      have := hi t' h
      omega)) hN) $$ HR HO [Hr]
  · unfold toRecv; iexact Hr
  iintro ⟨HO, Hz', Hp⟩
  unfold dmaPay
  iapply Hk $$ [HO Hrd Hst Hrs Hz Hz'] [Hp]
  · isplitl [HO]; · iexact HO
    isplitl [Hrd]; · iexact Hrd
    isplitl [Hst]; · iexact Hst
    isplitl [Hrs]; · iexact Hrs
    iapply (bigL_snoc (F := F) _ t _)
    isplitl [Hz']
    · unfold zeroR; iexact Hz'
    · iexact Hz
  · iexact Hp

/-- The wait for the next of the copies sent. -/
theorem step_sent (c : Dev nD) (i : ℕ) (t : TX) (hi : sorder.drop i = t :: sorder.drop (i + 1))
    {q : DmaSem sig} (hq : q = enc (.inr (t, false)))
    {sp sp' : Space} {s s' : Shape} {ty ty' : EltTy} {src : Memref sig .tc sp s ty} {dst : Memref sig .tc sp' s' ty'} {h1 h2}
    (hN : dst.view.dmaCredit = NN t.1)
    {α : Type} {Q : α → sProp 𝕄} {k : PUnit → Prog (TpuEff nD τ sig (Elt F) Λ₀ .tc) α} :
    recs m ρ K ⊢ iprop(ledger₂ m ρ c i
      -∗ (ledger₂ m ρ c (i + 1)
          -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 q src dst h1 h2) k) Q) := by
  unfold ledger₂
  rw [hi, bigL_cons, take_of_drop hi]
  iintro #HR ⟨⟨%W, HO⟩, ⟨Hr, Hrs⟩, Hz⟩ Hk
  iapply (step_wait m ρ K c (.inr (t, false)) hq (O := 0) (W := W)
    (by rw [MayWait_zero]; iintro -; iempintro) hN) $$ HR HO [Hr]
  · unfold sent; iexact Hr
  iintro ⟨HO, Hz', Hp⟩
  unfold dmaPay
  iapply Hk
  isplitl [HO]; · iexact HO
  isplitl [Hrs]; · iexact Hrs
  iapply (bigL_snoc (F := F) _ t _)
  isplitr [Hz]
  · unfold doneS
    isplitl [Hz']; · iexact Hz'
    iexact Hp
  · iexact Hz

/-- What local copy `i` needs besides its buffers, and what is left of it when it is under way. -/
def cpTok (c : Dev nD) (i : Fin 4) : sProp 𝕄 := iprop(dutyTok ER (cpCell c i) 0 (0 : Fin 4) ∗ atPos ER (cpCell c i) 0 ∅ 0)
def cpRun (c : Dev nD) (i : Fin 4) : sProp 𝕄 := iprop(atPos ER (cpCell c i) 0 ∅ 0 ∗ cred (tallyAt (cpCell c i) () NC))

/-- The wait for a local copy. -/
theorem step_cpWait (c : Dev nD) (i : Fin 4) {q : DmaSem sig} (hq : q = enc (.inl i)) (n : ℕ)
    {sp sp' : Space} {s s' : Shape} {ty ty' : EltTy} {src : Memref sig .tc sp s ty} {dst : Memref sig .tc sp' s' ty'} {h1 h2}
    (hN : dst.view.dmaCredit = NC)
    {α : Type} {Q : α → sProp 𝕄} {k : PUnit → Prog (TpuEff nD τ sig (Elt F) Λ₀ .tc) α} :
    recs m ρ K ⊢ iprop(ledger₂ m ρ c n -∗ cpRun (F := F) c i
      -∗ (ledger₂ m ρ c n -∗ semVal (cpCell c i) 0 -∗ cpPay m ρ c i
          -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 q src dst h1 h2) k) Q) := by
  unfold ledger₂
  iintro #HR ⟨⟨%W, HO⟩, Hrs, Hz⟩ Hc Hk
  iapply (step_wait m ρ K c (.inl i) hq (O := 0) (W := W)
    (by rw [MayWait_zero]; iintro -; iempintro) hN) $$ HR HO [Hc]
  · unfold cpRun; iexact Hc
  iintro ⟨HO, Hz', Hp⟩
  unfold dmaPay
  iapply Hk $$ [HO Hrs Hz] [Hz'] [Hp]
  · isplitl [HO]; · iexact HO
    isplitl [Hrs] <;> iassumption
  · iexact Hz'
  · iexact Hp

theorem owed_step (c : Dev nD) {i : ℕ} {t : TX} (hi : order.drop i = t :: order.drop (i + 1)) :
    owed c i = owed c (i + 1) + tallyAt (rcvCell (dst t.1 c) t) () (NN t.1) := by
  unfold owed
  rw [hi]
  rfl

/-- A remote copy between the same place of two devices' buffers. -/
theorem step_send (c n : Dev nD) (i j : ℕ) (t : TX) (hi : order.drop i = t :: order.drop (i + 1)) (hn : n = dst t.1 c)
    {s : Shape} {e : EltTy} (M : Memref sig .tc .vmem s e) (fs : Buf (Elt F) (M.view.loc (c : Thread nD τ)))
    (hsnd : sndPay m ρ c t = (M.view.loc (c : Thread nD τ) ↦[M.view.set]{sq t.1} fs))
    (hany : dstAny (F := F) c t ⊢ iprop(∃ fd, M.view.loc (dst t.1 c : Thread nD τ) ↦[M.view.set]{fullShare} fd))
    (hrcv : ∀ fd, (M.view.loc (dst t.1 c : Thread nD τ) ↦[M.view.set]{fullShare} (M.view.write (Elt F) fd (M.view.read (Elt F) fs) Finset.univ))
      ⊢ rcvPay m ρ (dst t.1 c) t)
    (hN : M.view.dmaCredit = NN t.1)
    {qS qR : DmaSem sig} (hqS : qS = enc (.inr (t, false))) (hqR : qR = enc (.inr (t, true)))
    {hsc : (M : Memref sig (Dev.tc n : Thread nD τ).2.kind .vmem s e).view.ref.isScScratch = false} {hsrc : M.view.WordExact} {hdst : M.view.WordExact}
    {hsem : DmaTarget.Typed .vmem (.dma qR) (.remote (Dev.tc n : Thread nD τ) (M : Memref sig .tc .vmem s e) (.dma qS) hsc)}
    {α : Type} {Q : α → sProp 𝕄} {k : PUnit → Prog (TpuEff nD τ sig (Elt F) Λ₀ .tc) α} :
    recs m ρ K ⊢ iprop(ledger (F := F) c i j -∗ sndPay m ρ c t
      -∗ (ledger (F := F) c (i + 1) j -∗ wp frame (wpE (defs₀ (F := F)) 𝒱₀ (c : Thread nD τ) none) Set.univ (k ⟨⟩) Q)
      -∗ wp frame (wpE (defs₀ (F := F)) 𝒱₀ (c : Thread nD τ) none) Set.univ
          (.op (.enqueueDma M (.remote (Dev.tc n : Thread nD τ) M (.dma qS) hsc) (.dma qR) hsrc hdst hsem) k) Q) := by
  subst hn hqS hqR
  unfold ledger
  rw [hi, bigL_cons, take_of_drop hi, hsnd, owed_step c hi]
  unfold ready toSend
  iintro #HR ⟨⟨%W, HO⟩, ⟨⟨⟨Ht1, Ht2, Hat⟩, Hd⟩, Hrd⟩, Hst, Hr, Hz⟩ Hs Hk
  ihave Hd' := hany $$ Hd
  icases Hd' with ⟨%fd, Hd⟩
  iapply (Rounds.wp_send_pointsTo 𝒱₀ ER (rd m ρ) (c : Thread nD τ) none (κ₁ := K (c, some (.inr (t, false)))) (κ₂ := K (dst t.1 c, some (.inr (t, true))))
      (r₁ := 0) (r₂ := 0) (d₁ := 0) (d₂ := 0) (fd := fd) (fs := fs) (q := sq t.1)
      (by rw [duties_own]; exact Finset.mem_singleton_self _) (by rw [duties_own]; exact Finset.mem_singleton_self _)
      () () (NN t.1) ((View.amount_dma _ _).trans hN) (amount_own m ρ c (.inr (t, false)) 0) (amount_own m ρ (dst t.1 c) (.inr (t, true)) 0) (owed c (i + 1)) rfl (W := W)
      (by rw [payload_own]; exact Entails.of_eq hsnd.symm) (by rw [payload_own]; exact hrcv fd)) $$ [HO Ht1 Ht2 Hd Hs]
  · isplitr; · iapply (recs_inv m ρ K c (some (.inr (t, false)))); iexact HR
    isplitr; · iapply (recs_inv m ρ K (dst t.1 c) (some (.inr (t, true)))); iexact HR
    isplitl [Hs]; · iexact Hs
    isplitl [Hd]; · iexact Hd
    isplitl [HO]; · iexact HO
    isplitl [Ht1]; · iexact Ht1
    isplitr; · iapply (recs_reached m ρ K c (some (.inr (t, false)))); iexact HR
    isplitl [Ht2]; · iexact Ht2
    iapply (recs_reached m ρ K (dst t.1 c) (some (.inr (t, true)))); iexact HR
  iintro ⟨Hc, HO⟩
  iapply Hk
  isplitl [HO]; · iexists W; iexact HO
  isplitl [Hrd]; · iexact Hrd
  isplitl [Hst Hc Hat]
  · iapply (bigL_snoc (F := F) _ t _)
    isplitl [Hc Hat]
    · unfold sent; isplitl [Hat]; · iexact Hat
      iexact Hc
    · iexact Hst
  isplitl [Hr] <;> iassumption

/-- A remote copy of rows of a slot of the gather buffer. -/
theorem step_sendG (c n : Dev nD) (i j : ℕ) (t : TX) (hi : order.drop i = t :: order.drop (i + 1)) (hn : n = dst t.1 c) (ht : t.1 ≠ 1)
    {off sz : Fin 3 → ℕ} {inb : ∀ a, off a + sz a ≤ S4x256x4096.size a} {hr} {s2 : Shape} {hq}
    (hoff : off = ![slotN t c, 32 * loE t.1 c, 0]) (hz : sz = ![1, 32 * nE t.1, 4096])
    (hN : (((Memref.whole cc0_scratch0).slice (Rect.unit (s := S4x256x4096) off sz inb) hr).squeeze s2 hq).view.dmaCredit = NN t.1)
    {qS qR : DmaSem sig} (hqS : qS = enc (.inr (t, false))) (hqR : qR = enc (.inr (t, true)))
    {hsc hsrc hdst hsem} {α : Type} {Q : α → sProp 𝕄} {k : PUnit → Prog (TpuEff nD τ sig (Elt F) Λ₀ .tc) α} :
    recs m ρ K ⊢ iprop(ledger (F := F) c i j -∗ sndPay m ρ c t
      -∗ (ledger (F := F) c (i + 1) j -∗ wp frame (wpE (defs₀ (F := F)) 𝒱₀ (c : Thread nD τ) none) Set.univ (k ⟨⟩) Q)
      -∗ wp frame (wpE (defs₀ (F := F)) 𝒱₀ (c : Thread nD τ) none) Set.univ
          (.op (.enqueueDma (((Memref.whole cc0_scratch0).slice (Rect.unit (s := S4x256x4096) off sz inb) hr).squeeze s2 hq)
            (.remote (Dev.tc n : Thread nD τ) (((Memref.whole cc0_scratch0).slice (Rect.unit (s := S4x256x4096) off sz inb) hr).squeeze s2 hq) (.dma qS) hsc)
            (.dma qR) hsrc hdst hsem) k) Q) := by
  have hS : ((((Memref.whole cc0_scratch0).slice (Rect.unit (s := S4x256x4096) off sz inb) hr).squeeze s2 hq).view.set : Finset S4x256x4096.Idx)
      = gReg (slotN t c) (loE t.1 c) (nE t.1) :=
    (View.set_reshape _ _).trans ((View.set_slice_whole _ _).trans (rect_set hoff hz))
  refine step_send m ρ K c n i j t hi hn (((Memref.whole cc0_scratch0).slice (Rect.unit (s := S4x256x4096) off sz inb) hr).squeeze s2 hq) (GF m ρ c) ?_ ?_ ?_ hN hqS hqR
  · unfold sndPay part
    rw [if_neg ht, hS]
  · unfold dstAny part
    simp only [if_neg ht]
    rw [hS]
    iintro ⟨%f0, %f1, H⟩
    iexists f0
    iexact H
  · intro fd
    unfold rcvPay part
    rw [if_neg ht, frm_dst, ← hS]
    exact Entails.of_eq (pointsTo_congr fun l hl => (write_read_same _ fd (GF m ρ c) l hl).trans (GF_copy m ρ c t ht l (by rw [← hS]; exact hl)))

/-- A remote copy of a slot of the statistics buffer. -/
theorem step_sendS (c n : Dev nD) (i j : ℕ) (t : TX) (hi : order.drop i = t :: order.drop (i + 1)) (hn : n = dst t.1 c) (ht : t.1 = 1)
    {off sz : Fin 3 → ℕ} {inb : ∀ a, off a + sz a ≤ S4x256x2.size a} {hr} {s2 : Shape} {hq}
    (hoff : off = ![slotN t c, 0, 0]) (hz : sz = S1x256x2.size)
    (hN : (((Memref.whole cc0_scratch1).slice (Rect.unit (s := S4x256x2) off sz inb) hr).squeeze s2 hq).view.dmaCredit = NN t.1)
    {qS qR : DmaSem sig} (hqS : qS = enc (.inr (t, false))) (hqR : qR = enc (.inr (t, true)))
    {hsc hsrc hdst hsem} {α : Type} {Q : α → sProp 𝕄} {k : PUnit → Prog (TpuEff nD τ sig (Elt F) Λ₀ .tc) α} :
    recs m ρ K ⊢ iprop(ledger (F := F) c i j -∗ sndPay m ρ c t
      -∗ (ledger (F := F) c (i + 1) j -∗ wp frame (wpE (defs₀ (F := F)) 𝒱₀ (c : Thread nD τ) none) Set.univ (k ⟨⟩) Q)
      -∗ wp frame (wpE (defs₀ (F := F)) 𝒱₀ (c : Thread nD τ) none) Set.univ
          (.op (.enqueueDma (((Memref.whole cc0_scratch1).slice (Rect.unit (s := S4x256x2) off sz inb) hr).squeeze s2 hq)
            (.remote (Dev.tc n : Thread nD τ) (((Memref.whole cc0_scratch1).slice (Rect.unit (s := S4x256x2) off sz inb) hr).squeeze s2 hq) (.dma qS) hsc)
            (.dma qR) hsrc hdst hsem) k) Q) := by
  subst hz
  have hS : ((((Memref.whole cc0_scratch1).slice (Rect.unit (s := S4x256x2) off S1x256x2.size inb) hr).squeeze s2 hq).view.set : Finset S4x256x2.Idx)
      = sReg (slotN t c) :=
    (View.set_reshape _ _).trans ((View.set_slice_whole _ _).trans (srect_set hoff))
  refine step_send m ρ K c n i j t hi hn (((Memref.whole cc0_scratch1).slice (Rect.unit (s := S4x256x2) off S1x256x2.size inb) hr).squeeze s2 hq) (SF m ρ c) ?_ ?_ ?_ hN hqS hqR
  · unfold sndPay part
    rw [if_pos ht, hS]
  · unfold dstAny part
    simp only [if_pos ht]
    rw [hS]
    iintro ⟨%f0, %f1, H⟩
    iexists f1
    iexact H
  · intro fd
    unfold rcvPay part
    rw [if_pos ht, frm_dst, ← hS]
    have hd : SF m ρ (dst t.1 c) = SF m ρ c := by rw [ht]; exact SF_right m ρ c
    rw [hd]
    exact Entails.of_eq (pointsTo_congr fun l hl => write_read_same _ fd (SF m ρ c) l hl)

theorem cpSlot_lt (u : Fin 4) (c : Dev nD) : cpSlot u c < 4 := Nat.mod_lt _ (by decide)

/-- A local copy of a slot of the staging buffer into the columns of the result. -/
theorem step_copy (c : Dev nD) (u : Fin 4) {off : Fin 2 → ℕ} {inb : ∀ a, off a + S256x4096.size a ≤ S256x16384.size a}
    {off' : Fin 3 → ℕ} {inb' : ∀ a, off' a + S1x256x4096.size a ≤ S4x256x4096.size a} {hr hr' hq}
    (h : off = ![0, 4096 * cpSlot u c]) (h' : off' = ![cpSlot u c, 0, 0])
    (hN : ((Memref.whole main_v1).slice (Rect.unit (s := S256x16384) off S256x4096.size inb) hr).view.dmaCredit = NC)
    {q : DmaSem sig} (hqe : q = enc (.inl u)) {hsrc hdst hsem}
    {α : Type} {Q : α → sProp 𝕄} {k : PUnit → Prog (TpuEff nD τ sig (Elt F) Λ₀ .tc) α} :
    recs m ρ K ⊢ iprop(cpTok (F := F) c u -∗ (((c : Thread nD τ).loc cc0_scratch2) ↦[gReg (cpSlot u c) 0 8]{fullShare} STF m ρ c)
      -∗ (∃ fd, ((c : Thread nD τ).loc main_v1) ↦[oReg (cpSlot u c)]{fullShare} fd)
      -∗ (cpRun (F := F) c u -∗ wp frame (wpE (defs₀ (F := F)) 𝒱₀ (c : Thread nD τ) none) Set.univ (k ⟨⟩) Q)
      -∗ wp frame (wpE (defs₀ (F := F)) 𝒱₀ (c : Thread nD τ) none) Set.univ
          (.op (.enqueueDma (((Memref.whole cc0_scratch2).slice (Rect.unit (s := S4x256x4096) off' S1x256x4096.size inb') hr').squeeze S256x4096 hq)
            (.here ((Memref.whole main_v1).slice (Rect.unit (s := S256x16384) off S256x4096.size inb) hr)) (.dma q) hsrc hdst hsem) k) Q) := by
  subst hqe
  have hD : (((Memref.whole main_v1).slice (Rect.unit (s := S256x16384) off S256x4096.size inb) hr).view.set : Finset S256x16384.Idx) = oReg (cpSlot u c) :=
    (View.set_slice_whole _ _).trans (orect_set h)
  have hS : ((((Memref.whole cc0_scratch2).slice (Rect.unit (s := S4x256x4096) off' S1x256x4096.size inb') hr').squeeze S256x4096 hq).view.set : Finset S4x256x4096.Idx)
      = gReg (cpSlot u c) 0 8 :=
    (View.set_reshape _ _).trans ((View.set_slice_whole _ _).trans (slot_set h'))
  unfold cpTok cpRun
  iintro #HR ⟨Ht, Hat⟩ Hs ⟨%fd, Hd⟩ Hk
  iapply (Rounds.wp_copy_pointsTo 𝒱₀ ER (rd m ρ) (c : Thread nD τ) none (κ := K (c, some (.inl u))) (r := 0) (d := 0) (fs := STF m ρ c) (fd := fd) (q := fullShare)
    (by rw [duties_own]; exact Finset.mem_singleton_self _) () NC ((View.amount_dma _ _).trans hN) (amount_own m ρ c (.inl u) 0)
    (by
      rw [payload_own]
      show _ ⊢ cpPay m ρ c u
      unfold cpPay
      rw [← hD, ← hS]
      refine sep_mono_left (Entails.of_eq (pointsTo_congr fun l hl => copy_out m ρ c (cpSlot_lt u c) h h' fd l (by rw [← hD]; exact hl))))) $$ [Ht Hs Hd]
  · isplitr; · iapply (recs_inv m ρ K c (some (.inl u))); iexact HR
    isplitl [Hs]; · rw [hS]; iexact Hs
    isplitl [Hd]; · rw [hD]; iexact Hd
    isplitl [Ht]; · iexact Ht
    iapply (recs_reached m ρ K c (some (.inl u))); iexact HR
  iintro Hc
  iapply Hk
  isplitl [Hat] <;> iassumption

end Steps

end Cert.Proof.Run

end
-- ==== Proof.Regions.lean ====
/-
The regions a device holds: how a received piece is shared between reading and sending on, and how the
pieces make up the slots of a buffer.
-/
module

public import proofs.«01_k».proof.Proof.Steps

@[expose] public section

noncomputable section

namespace Cert.Proof.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Names for the regions a device holds -/

/-- Part of the gather buffer. -/
abbrev gP (c : Dev nD) (S : Finset S4x256x4096.Idx) (q : PosShare TreeShare) (f : (cc0_scratch0 : Ref sig .tc).ty.Contents (Elt F)) : sProp 𝕄 :=
  ((c : Thread nD τ).loc cc0_scratch0) ↦[S]{q} f
/-- Part of the statistics buffer. -/
abbrev sP (c : Dev nD) (S : Finset S4x256x2.Idx) (q : PosShare TreeShare) (f : (cc0_scratch1 : Ref sig .tc).ty.Contents (Elt F)) : sProp 𝕄 :=
  ((c : Thread nD τ).loc cc0_scratch1) ↦[S]{q} f
/-- Part of the staging buffer. -/
abbrev tP (c : Dev nD) (S : Finset S4x256x4096.Idx) (f : (cc0_scratch2 : Ref sig .tc).ty.Contents (Elt F)) : sProp 𝕄 :=
  ((c : Thread nD τ).loc cc0_scratch2) ↦[S]{fullShare} f
/-- Part of the result. -/
abbrev oP (c : Dev nD) (S : Finset S256x16384.Idx) (f : (main_v1 : Ref sig .tc).ty.Contents (Elt F)) : sProp 𝕄 :=
  ((c : Thread nD τ).loc main_v1) ↦[S]{fullShare} f

/-- The half of a received copy kept for reading. -/
def lft (c : Dev nD) (t : TX) : sProp 𝕄 := part c t (frm t.1 c) fullShare.left (GF m ρ c) (SF m ρ c)
/-- The half of a received copy that may be sent on. -/
def rgt (c : Dev nD) (t : TX) : sProp 𝕄 := part c t (frm t.1 c) fullShare.right (GF m ρ c) (SF m ρ c)
/-- The share of a slot received along `y` that goes on along `y`. -/
def nx (c : Dev nD) (h : Fin 3) : sProp 𝕄 := gP c (gReg (slotN (2, h) c) (loE 0 c) 2) fullShare.right.left (GF m ρ c)

theorem part_share (c : Dev nD) (t : TX) (s : Dev nD) (q : PosShare TreeShare) (f0 f1) :
    part (F := F) c t s q f0 f1 ⊣⊢ iprop(part (F := F) c t s q.left f0 f1 ∗ part (F := F) c t s q.right f0 f1) := by
  unfold part
  split <;> exact pointsTo_share (PosShare.mem_left_op_right q)

theorem halves (c : Dev nD) (t : TX) : rcvPay m ρ c t ⊣⊢ iprop(lft m ρ c t ∗ rgt m ρ c t) := part_share ..

theorem part_g {c : Dev nD} {t : TX} (ht : t.1 ≠ 1) (s : Dev nD) (q : PosShare TreeShare) (f0 f1) :
    part (F := F) c t s q f0 f1 = gP c (gReg (slotN t s) (loE t.1 s) (nE t.1)) q f0 := if_neg ht

theorem part_s {c : Dev nD} {t : TX} (ht : t.1 = 1) (s : Dev nD) (q : PosShare TreeShare) (f0 f1) :
    part (F := F) c t s q f0 f1 = sP c (sReg (slotN t s)) q f1 := if_pos ht

/-! ## What is sent on -/

theorem slot_frm : ∀ (c : Dev nD) (t : TX), slotN t (frm t.1 c) = slotN (2, t.2) c := by decide +kernel
theorem slot_up : ∀ (c : Dev nD) (k : Fin 8) (h : Fin 3), 2 ≤ k.val → slotN (k, h) c = slotN (2, h) c := by decide +kernel
theorem loE_left : ∀ c : Dev nD, loE 0 (left c) = loE 0 c := by decide +kernel
theorem loE_pz : ∀ c : Dev nD, loE 4 (pz c) = loE 6 c := by decide +kernel
theorem loE_px : ∀ c : Dev nD, loE 3 (px c) = loE 7 c := by decide +kernel

/-- What arrives along `y` goes on along `y` (both pieces), and each piece along `x` and along `z`. -/
theorem fan (c : Dev nD) (h : Fin 3) : rgt m ρ c (0, h) ⊣⊢ iprop(nx m ρ c h ∗ (sndPay m ρ c (2, h) ∗ sndPay m ρ c (4, h))
    ∗ (sndPay m ρ c (3, h) ∗ sndPay m ρ c (5, h))) := by
  unfold rgt sndPay nx
  rw [part_g (t := (0, h)) (by decide : (0 : Fin 8) ≠ 1), part_g (t := (2, h)) (by decide : (2 : Fin 8) ≠ 1), part_g (t := (3, h)) (by decide : (3 : Fin 8) ≠ 1),
    part_g (t := (4, h)) (by decide : (4 : Fin 8) ≠ 1), part_g (t := (5, h)) (by decide : (5 : Fin 8) ≠ 1)]
  rw [slot_frm c (0, h), slot_up c 3 h (by decide), slot_up c 4 h (by decide), slot_up c 5 h (by decide)]
  rw [show loE (0, h).1 (frm (0, h).1 c) = loE 0 c from loE_left c]
  refine (pointsTo_share (PosShare.mem_left_op_right fullShare.right)).trans (sep_congr .rfl ?_)
  have e : gReg (slotN (2, h) c) (loE 0 c) (nE (0, h).1) = gReg (slotN (2, h) c) (loE 0 c) 1 ∪ gReg (slotN (2, h) c) (loE 0 c + 1) 1 :=
    gReg_cut _ _ 1 1
  rw [e]
  refine (pointsTo_union (gReg_disjoint (Or.inl le_rfl))).trans (sep_congr ?_ ?_)
  · exact pointsTo_share (PosShare.mem_left_op_right fullShare.right.right)
  · exact pointsTo_share (PosShare.mem_left_op_right fullShare.right.right)

/-- The kept share is what the next round sends along `y`. -/
theorem nx_next (c : Dev nD) (h : Fin 2) : nx m ρ c h.castSucc = sndPay m ρ c (0, h.succ) := by
  unfold nx sndPay
  rw [part_g (t := (0, h.succ)) (by decide : (0 : Fin 8) ≠ 1), (by decide +kernel : ∀ (c : Dev nD) (h : Fin 2), slotN (0, h.succ) c = slotN (2, h.castSucc) c) c h]
  rfl

theorem fwd_z (c : Dev nD) (h : Fin 3) : sndPay m ρ c (6, h) = rgt m ρ c (4, h) := by
  unfold sndPay rgt
  rw [part_g (t := (6, h)) (by decide : (6 : Fin 8) ≠ 1), part_g (t := (4, h)) (by decide : (4 : Fin 8) ≠ 1), slot_frm c (4, h), slot_up c 6 h (by decide)]
  rw [show loE (4, h).1 (frm (4, h).1 c) = loE 6 c from loE_pz c]
  rfl

theorem fwd_x (c : Dev nD) (h : Fin 3) : sndPay m ρ c (7, h) = rgt m ρ c (3, h) := by
  unfold sndPay rgt
  rw [part_g (t := (7, h)) (by decide : (7 : Fin 8) ≠ 1), part_g (t := (3, h)) (by decide : (3 : Fin 8) ≠ 1), slot_frm c (3, h), slot_up c 7 h (by decide)]
  rw [show loE (3, h).1 (frm (3, h).1 c) = loE 7 c from loE_px c]
  rfl

theorem st_next (c : Dev nD) (h : Fin 2) : sndPay m ρ c (1, h.succ) = rgt m ρ c (1, h.castSucc) := by
  unfold sndPay rgt
  rw [part_s (t := (1, h.succ)) rfl, part_s (t := (1, h.castSucc)) rfl, slot_frm c (1, h.castSucc),
    (by decide +kernel : ∀ (c : Dev nD) (h : Fin 2), slotN (1, h.succ) c = slotN (2, h.castSucc) c) c h]
  rfl

theorem take_y (c : Dev nD) (h : Fin 3) : rcvPay m ρ c (0, h) ⊢ iprop(lft m ρ c (0, h) ∗ nx m ρ c h ∗ (sndPay m ρ c (2, h) ∗ sndPay m ρ c (4, h))
    ∗ (sndPay m ρ c (3, h) ∗ sndPay m ρ c (5, h))) := (halves m ρ c (0, h)).1.trans (sep_mono_right (fan m ρ c h).1)

theorem take_z (c : Dev nD) (h : Fin 3) : rcvPay m ρ c (4, h) ⊢ iprop(lft m ρ c (4, h) ∗ sndPay m ρ c (6, h)) := by
  rw [fwd_z]
  exact (halves m ρ c (4, h)).1

theorem take_x (c : Dev nD) (h : Fin 3) : rcvPay m ρ c (3, h) ⊢ iprop(lft m ρ c (3, h) ∗ sndPay m ρ c (7, h)) := by
  rw [fwd_x]
  exact (halves m ρ c (3, h)).1

theorem take_st (c : Dev nD) (h : Fin 2) : rcvPay m ρ c (1, h.castSucc) ⊢ iprop(lft m ρ c (1, h.castSucc) ∗ sndPay m ρ c (1, h.succ)) := by
  rw [st_next]
  exact (halves m ρ c (1, h.castSucc)).1

/-! ## The pieces of a slot -/

/-- Every group of rows of a slot comes with exactly one kind of copy. -/
theorem tile_cover : ∀ (c : Dev nD) (e : Fin 8), ∃ k : Fin 8, k ≠ 1 ∧ loE k (frm k c) ≤ e.val ∧ e.val < loE k (frm k c) + nE k := by decide +kernel
theorem tile_range : ∀ (c : Dev nD) (k : Fin 8), k ≠ 1 → loE k (frm k c) + nE k ≤ 8 := by decide +kernel
theorem tile_apart : ∀ (c : Dev nD) (k k' : Fin 8), k ≠ 1 → k' ≠ 1 → k ≠ k' →
    loE k (frm k c) + nE k ≤ loE k' (frm k' c) ∨ loE k' (frm k' c) + nE k' ≤ loE k (frm k c) := by decide +kernel

/-- A slot cut into the pieces the copies of round `h` bring. -/
theorem slot_cut (c : Dev nD) (h : Fin 3) (q : PosShare TreeShare) (f0 f1) :
    gP (F := F) c (gReg (slotN (2, h) c) 0 8) q f0 = bigSep (Finset.univ.erase 1) fun k => part (F := F) c (k, h) (frm k c) q f0 f1 := by
  have e : gReg (slotN (2, h) c) 0 8 = (Finset.univ.erase (1 : Fin 8)).biUnion fun k => gReg (slotN (2, h) c) (loE k (frm k c)) (nE k) := by
    ext i
    rw [Finset.mem_biUnion, mem_gReg]
    have h1 : (i 1).val < 256 := (i 1).isLt
    constructor
    · rintro ⟨a0, a1, a2⟩
      obtain ⟨k, hk, b0, b1⟩ := tile_cover c ⟨(i 1).val / 32, by omega⟩
      refine ⟨k, Finset.mem_erase.mpr ⟨hk, Finset.mem_univ _⟩, mem_gReg.mpr ⟨a0, ?_⟩⟩
      dsimp only at b0 b1
      omega
    · rintro ⟨k, hk, hi⟩
      have := tile_range c k (Finset.ne_of_mem_erase hk)
      rw [mem_gReg] at hi
      omega
  rw [e]
  refine (pointsTo_biUnion _ _ fun k hk k' hk' n => gReg_disjoint (tile_apart c k k' (Finset.ne_of_mem_erase hk) (Finset.ne_of_mem_erase hk') n)).trans ?_
  refine bigSep_congr fun k hk => ?_
  rw [part_g (t := (k, h)) (Finset.ne_of_mem_erase hk), slot_frm c (k, h)]

/-- The same, listed. -/
theorem slot_list (c : Dev nD) (h : Fin 3) (q : PosShare TreeShare) (f0 f1) :
    gP (F := F) c (gReg (slotN (2, h) c) 0 8) q f0
      = iprop(part (F := F) c (0, h) (frm 0 c) q f0 f1 ∗ part (F := F) c (2, h) (frm 2 c) q f0 f1 ∗ part (F := F) c (3, h) (frm 3 c) q f0 f1
        ∗ part (F := F) c (4, h) (frm 4 c) q f0 f1 ∗ part (F := F) c (5, h) (frm 5 c) q f0 f1 ∗ part (F := F) c (6, h) (frm 6 c) q f0 f1
        ∗ part (F := F) c (7, h) (frm 7 c) q f0 f1) := by
  rw [slot_cut c h q f0 f1, bigSep_eq_bigSepL_of_eq [0, 2, 3, 4, 5, 6, 7] (by decide) (by decide)]
  rfl

/-- All seven pieces in: the slot can be read. -/
theorem slot_read (c : Dev nD) (h : Fin 3) :
    iprop(lft m ρ c (0, h) ∗ lft m ρ c (2, h) ∗ lft m ρ c (3, h) ∗ lft m ρ c (4, h) ∗ lft m ρ c (5, h) ∗ lft m ρ c (6, h) ∗ lft m ρ c (7, h))
      = gP c (gReg (slotN (2, h) c) 0 8) fullShare.left (GF m ρ c) := (slot_list c h fullShare.left (GF m ρ c) (SF m ρ c)).symm

theorem slot_rgt (c : Dev nD) (h : Fin 3) :
    iprop(rgt m ρ c (0, h) ∗ rgt m ρ c (2, h) ∗ rgt m ρ c (3, h) ∗ rgt m ρ c (4, h) ∗ rgt m ρ c (5, h) ∗ rgt m ρ c (6, h) ∗ rgt m ρ c (7, h))
      = gP c (gReg (slotN (2, h) c) 0 8) fullShare.right (GF m ρ c) := (slot_list c h fullShare.right (GF m ρ c) (SF m ρ c)).symm

/-- All shares back: the slot is whole again. -/
theorem slot_back (c : Dev nD) (h : Fin 3) :
    iprop(gP c (gReg (slotN (2, h) c) 0 8) fullShare.left (GF m ρ c) ∗ nx m ρ c h
      ∗ (sndPay m ρ c (2, h) ∗ sndPay m ρ c (3, h) ∗ sndPay m ρ c (4, h) ∗ sndPay m ρ c (5, h) ∗ sndPay m ρ c (6, h) ∗ sndPay m ρ c (7, h))
      ∗ rgt m ρ c (2, h) ∗ rgt m ρ c (5, h) ∗ rgt m ρ c (6, h) ∗ rgt m ρ c (7, h))
      ⊢ gP c (gReg (slotN (2, h) c) 0 8) fullShare (GF m ρ c) := by
  rw [fwd_z, fwd_x]
  iintro ⟨HL, Hn, ⟨H2, H3, H4, H5, H6, H7⟩, G2, G5, G6, G7⟩
  iapply (pointsTo_share (PosShare.mem_left_op_right fullShare)).2
  isplitl [HL]
  · iexact HL
  iapply (Entails.of_eq (slot_rgt m ρ c h))
  isplitl [Hn H2 H3 H4 H5]
  · iapply (fan m ρ c h).2
    isplitl [Hn]
    · iexact Hn
    isplitl [H2 H4]
    · isplitl [H2]
      · iexact H2
      iexact H4
    isplitl [H3]
    · iexact H3
    iexact H5
  isplitl [G2]
  · iexact G2
  isplitl [H7]
  · iexact H7
  isplitl [H6]
  · iexact H6
  isplitl [G5]
  · iexact G5
  isplitl [G6]
  · iexact G6
  iexact G7

/-! ## The own slot -/

theorem slot_own : ∀ c : Dev nD, slotN (0, 0) c = yC c ∧ slotN (1, 0) c = yC c := by decide +kernel
theorem loE_range : ∀ c : Dev nD, loE 0 c + 2 ≤ 8 := by decide +kernel

/-- The own slot lends the rows sent along `y`. -/
theorem own_lend (c : Dev nD) : gP c (gReg (yC c) 0 8) fullShare (GF m ρ c)
    ⊢ iprop(sndPay m ρ c (0, 0) ∗ (sndPay m ρ c (0, 0) -∗ gP c (gReg (yC c) 0 8) fullShare (GF m ρ c))) := by
  have hs : gReg (yC c) (loE 0 c) 2 ⊆ gReg (yC c) 0 8 := fun i hi => by
    have := loE_range c
    rw [mem_gReg] at hi ⊢
    omega
  unfold sndPay
  rw [part_g (t := (0, 0)) (by decide), (slot_own c).1]
  iintro H
  ihave H := (pointsTo_split_subset hs).1 $$ H
  icases H with ⟨HI, HO⟩
  ihave HI := (pointsTo_share (PosShare.mem_left_op_right fullShare)).1 $$ HI
  icases HI with ⟨HL, HR⟩
  ihave HR := (pointsTo_share (PosShare.mem_left_op_right fullShare.right)).1 $$ HR
  icases HR with ⟨HRL, HRR⟩
  isplitl [HRL]
  · iexact HRL
  iintro HRL
  iapply (pointsTo_split_subset hs).2
  isplitr [HO]
  · iapply (pointsTo_share (PosShare.mem_left_op_right fullShare)).2
    isplitl [HL]
    · iexact HL
    iapply (pointsTo_share (PosShare.mem_left_op_right fullShare.right)).2
    isplitl [HRL]
    · iexact HRL
    iexact HRR
  iexact HO

/-- The own statistics: half is sent, half kept. -/
theorem own_stats (c : Dev nD) : sP c (sReg (yC c)) fullShare (SF m ρ c)
    ⊣⊢ iprop(sP c (sReg (yC c)) fullShare.left (SF m ρ c) ∗ sndPay m ρ c (1, 0)) := by
  unfold sndPay
  rw [part_s (t := (1, 0)) rfl, (slot_own c).2]
  exact pointsTo_share (PosShare.mem_left_op_right fullShare)

theorem lft_stats (c : Dev nD) (h : Fin 3) : lft m ρ c (1, h) = sP c (sReg (slotN (2, h) c)) fullShare.left (SF m ρ c) := by
  unfold lft
  rw [part_s (t := (1, h)) rfl, slot_frm c (1, h)]

theorem rgt_stats (c : Dev nD) (h : Fin 3) : rgt m ρ c (1, h) = sP c (sReg (slotN (2, h) c)) fullShare.right (SF m ρ c) := by
  unfold rgt
  rw [part_s (t := (1, h)) rfl, slot_frm c (1, h)]

/-! ## A buffer cut into four slots -/

theorem slot_which : ∀ (c : Dev nD) (s : Fin 4), s.val = yC c ∨ s.val = slotN (2, 0) c ∨ s.val = slotN (2, 1) c ∨ s.val = slotN (2, 2) c := by decide +kernel
theorem slots_differ : ∀ c : Dev nD, yC c ≠ slotN (2, 0) c ∧ yC c ≠ slotN (2, 1) c ∧ yC c ≠ slotN (2, 2) c
    ∧ slotN (2, 0) c ≠ slotN (2, 1) c ∧ slotN (2, 0) c ≠ slotN (2, 2) c ∧ slotN (2, 1) c ≠ slotN (2, 2) c := by decide +kernel

/-- A buffer whose elements lie in four slots is its own slot and the three others. -/
theorem cut4 (c : Dev nD) {ℓ : Loc nD τ sig} (R : ℕ → Finset (Idx ℓ)) (q : PosShare TreeShare) (f : Buf (Elt F) ℓ)
    (cover : ∀ i, ∃ s : Fin 4, i ∈ R s.val) (apart : ∀ s s', s ≠ s' → Disjoint (R s) (R s')) :
    (ℓ ↦[Finset.univ]{q} f : sProp 𝕄)
      ⊣⊢ iprop((ℓ ↦[R (yC c)]{q} f) ∗ (ℓ ↦[R (slotN (2, 0) c)]{q} f) ∗ (ℓ ↦[R (slotN (2, 1) c)]{q} f) ∗ (ℓ ↦[R (slotN (2, 2) c)]{q} f)) := by
  have e : (Finset.univ : Finset (Idx ℓ)) = R (yC c) ∪ (R (slotN (2, 0) c) ∪ (R (slotN (2, 1) c) ∪ R (slotN (2, 2) c))) := by
    ext i
    simp only [Finset.mem_univ, Finset.mem_union, true_iff]
    obtain ⟨s, hs⟩ := cover i
    rcases slot_which c s with h | h | h | h <;> rw [h] at hs <;> simp [hs]
  obtain ⟨n0, n1, n2, n3, n4, n5⟩ := slots_differ c
  rw [e]
  refine (pointsTo_union ?_).trans (sep_congr .rfl ((pointsTo_union ?_).trans (sep_congr .rfl (pointsTo_union (apart _ _ n5)))))
  · exact Finset.disjoint_union_right.mpr ⟨apart _ _ n0, Finset.disjoint_union_right.mpr ⟨apart _ _ n1, apart _ _ n2⟩⟩
  · exact Finset.disjoint_union_right.mpr ⟨apart _ _ n3, apart _ _ n4⟩

theorem cut_g (c : Dev nD) (q : PosShare TreeShare) (f : (cc0_scratch0 : Ref sig .tc).ty.Contents (Elt F)) :
    gP (F := F) c Finset.univ q f ⊣⊢ iprop(gP c (gReg (yC c) 0 8) q f ∗ gP c (gReg (slotN (2, 0) c) 0 8) q f
      ∗ gP c (gReg (slotN (2, 1) c) 0 8) q f ∗ gP c (gReg (slotN (2, 2) c) 0 8) q f) :=
  cut4 c (ℓ := (c : Thread nD τ).loc cc0_scratch0) (fun s => gReg s 0 8) q f
    (fun i => ⟨i 0, mem_gReg.mpr ⟨rfl, Nat.zero_le _, (i 1).isLt⟩⟩) fun _ _ h => gReg_disjoint_slot h

theorem cut_t (c : Dev nD) (f : (cc0_scratch2 : Ref sig .tc).ty.Contents (Elt F)) :
    tP (F := F) c Finset.univ f ⊣⊢ iprop(tP c (gReg (yC c) 0 8) f ∗ tP c (gReg (slotN (2, 0) c) 0 8) f
      ∗ tP c (gReg (slotN (2, 1) c) 0 8) f ∗ tP c (gReg (slotN (2, 2) c) 0 8) f) :=
  cut4 c (ℓ := (c : Thread nD τ).loc cc0_scratch2) (fun s => gReg s 0 8) fullShare f
    (fun i => ⟨i 0, mem_gReg.mpr ⟨rfl, Nat.zero_le _, (i 1).isLt⟩⟩) fun _ _ h => gReg_disjoint_slot h

theorem cut_s (c : Dev nD) (q : PosShare TreeShare) (f : (cc0_scratch1 : Ref sig .tc).ty.Contents (Elt F)) :
    sP (F := F) c Finset.univ q f ⊣⊢ iprop(sP c (sReg (yC c)) q f ∗ sP c (sReg (slotN (2, 0) c)) q f
      ∗ sP c (sReg (slotN (2, 1) c)) q f ∗ sP c (sReg (slotN (2, 2) c)) q f) :=
  cut4 c (ℓ := (c : Thread nD τ).loc cc0_scratch1) sReg q f (fun i => ⟨i 0, mem_sReg.mpr rfl⟩) fun s s' h =>
    Finset.disjoint_left.mpr fun i hi hj => h ((mem_sReg.mp hi).symm.trans (mem_sReg.mp hj))

theorem cut_o (c : Dev nD) (f : (main_v1 : Ref sig .tc).ty.Contents (Elt F)) :
    oP (F := F) c Finset.univ f ⊣⊢ iprop(oP c (oReg (yC c)) f ∗ oP c (oReg (slotN (2, 0) c)) f
      ∗ oP c (oReg (slotN (2, 1) c)) f ∗ oP c (oReg (slotN (2, 2) c)) f) :=
  cut4 c (ℓ := (c : Thread nD τ).loc main_v1) oReg fullShare f
    (fun i => ⟨⟨(i 1).val / 4096, by have h : (i 1).val < 16384 := (i 1).isLt; omega⟩, mem_oReg.mpr rfl⟩) fun s s' h =>
    Finset.disjoint_left.mpr fun i hi hj => h ((mem_oReg.mp hi).symm.trans (mem_oReg.mp hj))

/-! ## The destinations handed out at the start -/

/-- Room for copy `t` at its receiver `c`. -/
def anyR (c : Dev nD) (t : TX) : sProp 𝕄 := iprop(∃ f0, ∃ f1, part (F := F) c t (frm t.1 c) fullShare f0 f1)

theorem dstAny_dst (c : Dev nD) (t : TX) : dstAny (F := F) (frm t.1 c) t = anyR (F := F) c t := by
  unfold dstAny anyR
  rw [dst_frm]

theorem room (c : Dev nD) (h : Fin 3) (f0 f1) :
    iprop(gP (F := F) c (gReg (slotN (2, h) c) 0 8) fullShare f0 ∗ sP (F := F) c (sReg (slotN (2, h) c)) fullShare f1)
      ⊢ bigSep Finset.univ fun k : Fin 8 => anyR (F := F) c (k, h) := by
  have hw : ∀ k : Fin 8, part (F := F) c (k, h) (frm k c) fullShare f0 f1 ⊢ anyR (F := F) c (k, h) := fun k => by
    unfold anyR
    iintro H
    iexists f0, f1
    iexact H
  have h1 : sP (F := F) c (sReg (slotN (2, h) c)) fullShare f1 = part (F := F) c (1, h) (frm 1 c) fullShare f0 f1 := by
    rw [part_s (t := (1, h)) rfl, slot_frm c (1, h)]
  have hm : (bigSep (Finset.univ.erase 1) fun k : Fin 8 => part (F := F) c (k, h) (frm k c) fullShare f0 f1)
      ⊢ bigSep (Finset.univ.erase 1) fun k : Fin 8 => anyR (F := F) c (k, h) := bigSep_mono fun k _ => hw k
  rw [slot_cut c h fullShare f0 f1, h1, bigSep_erase (Finset.mem_univ (1 : Fin 8))]
  show _ ⊢ iprop(anyR (F := F) c (1, h) ∗ bigSep (Finset.univ.erase 1) fun k : Fin 8 => anyR (F := F) c (k, h))
  iintro ⟨HG, HS⟩
  isplitl [HS]
  · iapply (hw 1)
    iexact HS
  iapply hm
  iexact HG

/-- All three slots: room for every copy, sorted by the neighbour it comes from. -/
theorem rooms (c : Dev nD) (f0 f1) :
    iprop((gP (F := F) c (gReg (slotN (2, 0) c) 0 8) fullShare f0 ∗ gP c (gReg (slotN (2, 1) c) 0 8) fullShare f0 ∗ gP c (gReg (slotN (2, 2) c) 0 8) fullShare f0)
      ∗ (sP (F := F) c (sReg (slotN (2, 0) c)) fullShare f1 ∗ sP c (sReg (slotN (2, 1) c)) fullShare f1 ∗ sP c (sReg (slotN (2, 2) c)) fullShare f1))
      ⊢ iprop(barPay (F := F) (left c) 0 ∗ barPay (F := F) (right c) 1 ∗ barPay (F := F) (px c) 2 ∗ barPay (F := F) (pz c) 3) := by
  have hb : ∀ (d : Fin 4) (n : Dev nD), (∀ k : Fin 8, bk k = d → frm k c = n) →
      barPay (F := F) n d = bigSep (Finset.univ.filter fun t : TX => bk t.1 = d) (anyR (F := F) c) := fun d n hd => by
    unfold barPay
    refine bigSep_congr fun t ht => ?_
    rw [← dstAny_dst, hd t.1 (Finset.mem_filter.mp ht).2]
  have e0 := hb 0 (left c) ((by decide +kernel : ∀ (c : Dev nD) (k : Fin 8), bk k = 0 → frm k c = left c) c)
  have e1 := hb 1 (right c) ((by decide +kernel : ∀ (c : Dev nD) (k : Fin 8), bk k = 1 → frm k c = right c) c)
  have e2 := hb 2 (px c) ((by decide +kernel : ∀ (c : Dev nD) (k : Fin 8), bk k = 2 → frm k c = px c) c)
  have e3 := hb 3 (pz c) ((by decide +kernel : ∀ (c : Dev nD) (k : Fin 8), bk k = 3 → frm k c = pz c) c)
  have hall : (bigSep Finset.univ fun h : Fin 3 => bigSep Finset.univ fun k : Fin 8 => anyR (F := F) c (k, h))
      = iprop(barPay (F := F) (left c) 0 ∗ barPay (F := F) (right c) 1 ∗ barPay (F := F) (px c) 2 ∗ barPay (F := F) (pz c) 3) := by
    rw [e0, e1, e2, e3]
    rw [bigSep_univ_comm (fun (h : Fin 3) (k : Fin 8) => anyR (F := F) c (k, h)), ← bigSep_univ_prod (fun t : TX => anyR (F := F) c t)]
    rw [show (Finset.univ : Finset TX) = (Finset.univ.filter fun t : TX => bk t.1 = 0) ∪ ((Finset.univ.filter fun t : TX => bk t.1 = 1)
      ∪ ((Finset.univ.filter fun t : TX => bk t.1 = 2) ∪ (Finset.univ.filter fun t : TX => bk t.1 = 3))) by decide]
    rw [bigSep_union (by decide), bigSep_union (by decide), bigSep_union (by decide)]
    rfl
  rw [← hall, bigSep_univ_eq_bigSepL [0, 1, 2] (by decide) (by decide)]
  show _ ⊢ iprop((bigSep Finset.univ fun k : Fin 8 => anyR (F := F) c (k, 0)) ∗ (bigSep Finset.univ fun k : Fin 8 => anyR (F := F) c (k, 1))
    ∗ bigSep Finset.univ fun k : Fin 8 => anyR (F := F) c (k, 2))
  iintro ⟨⟨G0, G1, G2⟩, S0, S1, S2⟩
  ihave H0 := room c 0 f0 f1 $$ [G0 S0]
  · isplitl [G0]
    · iexact G0
    iexact S0
  ihave H1 := room c 1 f0 f1 $$ [G1 S1]
  · isplitl [G1]
    · iexact G1
    iexact S1
  ihave H2 := room c 2 f0 f1 $$ [G2 S2]
  · isplitl [G2]
    · iexact G2
    iexact S2
  isplitl [H0]
  · iexact H0
  isplitl [H1]
  · iexact H1
  iexact H2

end Cert.Proof.Run
-- ==== Proof.PartsA.lean ====
/-
The parts of the kernel that send and wait.
-/
module

public import proofs.«01_k».proof.Proof.Regions

@[expose] public section

noncomputable section

namespace Cert.Proof.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Option KS → ℕ)

/-- A part of the kernel at the kernel's own buffers and semaphores. -/
abbrev onBufs {β : Type 1} (f : (arg0 : Memref sig .tc .vmem S256x512 .bf16) → arg0.IsWhole → (arg1 : Memref sig .tc .vmem S512x4096 .bf16) → arg1.IsWhole →
    (arg2 : Memref sig .tc .hbm S256x16384 .f32) → arg2.IsWhole → (arg3 : Memref sig .tc .vmem S4x256x4096 .bf16) → arg3.IsWhole →
    (arg4 : Memref sig .tc .vmem S4x256x2 .f32) → arg4.IsWhole → (arg5 : Memref sig .tc .vmem S4x256x4096 .f32) → arg5.IsWhole →
    DmaSems sig S4 → DmaSems sig S3 → DmaSems sig S3 → DmaSems sig S3 → DmaSems sig S3 → DmaSems sig S3 → DmaSems sig S3 → DmaSems sig S3 → DmaSems sig S3
      → DmaSems sig S3 → DmaSems sig S3 → DmaSems sig S3 → DmaSems sig S3 → DmaSems sig S3 → DmaSems sig S3 → DmaSems sig S3 → DmaSems sig S3 → β) : β :=
  f (Memref.whole cc0_stg0_0) (Memref.isWhole_whole _) (Memref.whole cc0_stg1_0) (Memref.isWhole_whole _) (Memref.whole main_v1) (Memref.isWhole_whole _)
    (Memref.whole cc0_scratch0) (Memref.isWhole_whole _) (Memref.whole cc0_scratch1) (Memref.isWhole_whole _) (Memref.whole cc0_scratch2) (Memref.isWhole_whole _)
    cc0_scratch3 cc0_scratch4 cc0_scratch5 cc0_scratch6 cc0_scratch7 cc0_scratch8 cc0_scratch9 cc0_scratch10 cc0_scratch11 cc0_scratch12 cc0_scratch13
    cc0_scratch14 cc0_scratch15 cc0_scratch16 cc0_scratch17 cc0_scratch18 cc0_scratch19

/-- The weakest precondition of a program on device `c`. -/
abbrev wpc {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## Where the copies go, and which rows they move -/

theorem off_b : ∀ (c : Dev nD) (h : Fin 3), k0_off6 c (BitVec.ofNat 32 (3 - h.val)) = ![slotN (3, h) c, 32 * loE 3 c, 0] := by decide +kernel
theorem off_b' : ∀ (c : Dev nD) (h : Fin 3), k0_off6 c (BitVec.ofNat 32 (3 - h.val)) = ![slotN (5, h) c, 32 * loE 5 c, 0] := by decide +kernel
theorem off_a : ∀ (c : Dev nD) (h : Fin 3), k0_off7 c (BitVec.ofNat 32 (3 - h.val)) = ![slotN (2, h) c, 32 * loE 2 c, 0] := by decide +kernel
theorem off_a' : ∀ (c : Dev nD) (h : Fin 3), k0_off7 c (BitVec.ofNat 32 (3 - h.val)) = ![slotN (4, h) c, 32 * loE 4 c, 0] := by decide +kernel
theorem off_st : ∀ (c : Dev nD) (h : Fin 2), k0_off8 c (BitVec.ofNat 32 (3 - h.val)) = ![slotN (1, h.succ) c, 0, 0] := by decide +kernel
theorem off_y : ∀ (c : Dev nD) (h : Fin 2), k0_off9 c (BitVec.ofNat 32 (3 - h.val)) = ![slotN (0, h.succ) c, 32 * loE 0 c, 0] := by decide +kernel
theorem off_xr : ∀ (c : Dev nD) (h : Fin 3), k0_off10 c (BitVec.ofNat 32 (3 - h.val)) = ![slotN (6, h) c, 32 * loE 6 c, 0] := by decide +kernel
theorem off_zr : ∀ (c : Dev nD) (h : Fin 3), k0_off11 c (BitVec.ofNat 32 (3 - h.val)) = ![slotN (7, h) c, 32 * loE 7 c, 0] := by decide +kernel

theorem dev5 : ∀ c : Dev nD, (⟨k0_dev5 c, k0_dev5_lt c⟩ : Dev nD) = dst 1 c := by decide +kernel
theorem dev6 : ∀ c : Dev nD, (⟨k0_dev6 c, k0_dev6_lt c⟩ : Dev nD) = dst 0 c := by decide +kernel
theorem dev7 : ∀ c : Dev nD, (⟨k0_dev7 c, k0_dev7_lt c⟩ : Dev nD) = dst 3 c := by decide +kernel
theorem dev8 : ∀ c : Dev nD, (⟨k0_dev8 c, k0_dev8_lt c⟩ : Dev nD) = dst 2 c := by decide +kernel
theorem dev9 : ∀ c : Dev nD, (⟨k0_dev9 c, k0_dev9_lt c⟩ : Dev nD) = dst 4 c := by decide +kernel
theorem dev10 : ∀ c : Dev nD, (⟨k0_dev10 c, k0_dev10_lt c⟩ : Dev nD) = dst 5 c := by decide +kernel
theorem dev11 : ∀ c : Dev nD, (⟨k0_dev11 c, k0_dev11_lt c⟩ : Dev nD) = dst 1 c := by decide +kernel
theorem dev12 : ∀ c : Dev nD, (⟨k0_dev12 c, k0_dev12_lt c⟩ : Dev nD) = dst 0 c := by decide +kernel
theorem dev13 : ∀ c : Dev nD, (⟨k0_dev13 c, k0_dev13_lt c⟩ : Dev nD) = dst 6 c := by decide +kernel
theorem dev14 : ∀ c : Dev nD, (⟨k0_dev14 c, k0_dev14_lt c⟩ : Dev nD) = dst 7 c := by decide +kernel
theorem dev15 : ∀ c : Dev nD, (⟨k0_dev15 c, k0_dev15_lt c⟩ : Dev nD) = dst 3 c := by decide +kernel
theorem dev16 : ∀ c : Dev nD, (⟨k0_dev16 c, k0_dev16_lt c⟩ : Dev nD) = dst 2 c := by decide +kernel
theorem dev17 : ∀ c : Dev nD, (⟨k0_dev17 c, k0_dev17_lt c⟩ : Dev nD) = dst 4 c := by decide +kernel
theorem dev18 : ∀ c : Dev nD, (⟨k0_dev18 c, k0_dev18_lt c⟩ : Dev nD) = dst 5 c := by decide +kernel
theorem dev19 : ∀ c : Dev nD, (⟨k0_dev19 c, k0_dev19_lt c⟩ : Dev nD) = dst 1 c := by decide +kernel
theorem dev20 : ∀ c : Dev nD, (⟨k0_dev20 c, k0_dev20_lt c⟩ : Dev nD) = dst 0 c := by decide +kernel
theorem dev21 : ∀ c : Dev nD, (⟨k0_dev21 c, k0_dev21_lt c⟩ : Dev nD) = dst 6 c := by decide +kernel
theorem dev22 : ∀ c : Dev nD, (⟨k0_dev22 c, k0_dev22_lt c⟩ : Dev nD) = dst 7 c := by decide +kernel
theorem dev23 : ∀ c : Dev nD, (⟨k0_dev23 c, k0_dev23_lt c⟩ : Dev nD) = dst 3 c := by decide +kernel
theorem dev24 : ∀ c : Dev nD, (⟨k0_dev24 c, k0_dev24_lt c⟩ : Dev nD) = dst 2 c := by decide +kernel
theorem dev25 : ∀ c : Dev nD, (⟨k0_dev25 c, k0_dev25_lt c⟩ : Dev nD) = dst 4 c := by decide +kernel
theorem dev26 : ∀ c : Dev nD, (⟨k0_dev26 c, k0_dev26_lt c⟩ : Dev nD) = dst 5 c := by decide +kernel
theorem dev27 : ∀ c : Dev nD, (⟨k0_dev27 c, k0_dev27_lt c⟩ : Dev nD) = dst 6 c := by decide +kernel
theorem dev28 : ∀ c : Dev nD, (⟨k0_dev28 c, k0_dev28_lt c⟩ : Dev nD) = dst 7 c := by decide +kernel

/-! ## The parts -/

theorem part4 (c : Dev nD) (v2 v5 v8 v12 v13 v21 : BitVec 32) {Q} :
    recs m ρ K ⊢ iprop(ledger (F := F) c 0 0 -∗ sndPay m ρ c (1, 0) -∗ sndPay m ρ c (0, 0)
      -∗ (∀ r, ledger (F := F) c 2 1 -∗ rcvPay m ρ c (0, 0) -∗ Q r)
      -∗ wpc c (onBufs (k0_part4 (F := F)) c v2 v5 v8 v12 v13 v21) Q) := by
  unfold onBufs wpc
  rw [k0_part4_eq_skeleton]
  unfold k0_part4_skel
  simp only [Prog.lift, Prog.bind_op, Prog.bind_ret, Prog.pure_eq_ret]
  iintro #HR HL H10 H00 Hk
  iapply (step_sendS m ρ K c _ 0 0 (1, 0) rfl (dev5 c) rfl ((by decide +kernel : ∀ c : Dev nD, k0_off4 c = ![slotN (1, 0) c, 0, 0]) c) rfl rfl rfl rfl) $$ HR HL H10
  iintro HL
  iapply (step_sendG m ρ K c _ 1 0 (0, 0) rfl (dev6 c) (by decide) ((by decide +kernel : ∀ c : Dev nD, k0_off5 c = ![slotN (0, 0) c, 32 * loE 0 c, 0]) c) rfl rfl rfl rfl) $$ HR HL H00
  iintro HL
  iapply (step_recv m ρ K c 2 0 (0, 0) rfl (by decide) rfl rfl) $$ HR HL
  iintro HL P00
  rw [wp_ret]
  imodintro
  iapply Hk $$ %_ HL P00

theorem part5 (c : Dev nD) (v2 v5 v8 v13 v17 v132 c0 : BitVec 32) {Q} :
    recs m ρ K ⊢ iprop(ledger (F := F) c 2 1 -∗ sndPay m ρ c (3, 0) -∗ sndPay m ρ c (2, 0)
      -∗ (∀ r, ledger (F := F) c 4 1 -∗ Q r)
      -∗ wpc c (onBufs (k0_part5 (F := F)) c v2 v5 v8 v13 v17 v132 c0) Q) := by
  unfold onBufs wpc
  rw [k0_part5_eq_skeleton]
  unfold k0_part5_skel
  simp only [Prog.lift, Prog.bind_op, Prog.bind_ret, Prog.pure_eq_ret]
  iintro #HR HL H30 H20 Hk
  iapply (step_sendG m ρ K c _ 2 1 (3, 0) rfl (dev7 c) (by decide) (off_b c 0) rfl rfl rfl rfl) $$ HR HL H30
  iintro HL
  iapply (step_sendG m ρ K c _ 3 1 (2, 0) rfl (dev8 c) (by decide) (off_a c 0) rfl rfl rfl rfl) $$ HR HL H20
  iintro HL
  rw [wp_ret]
  imodintro
  iapply Hk $$ %_ HL

theorem part6 (c : Dev nD) (v2 v5 v8 v12 v17 : BitVec 32) {Q} :
    recs m ρ K ⊢ iprop(ledger (F := F) c 4 1 -∗ sndPay m ρ c (4, 0) -∗ sndPay m ρ c (5, 0)
      -∗ (∀ r, ledger (F := F) c 6 2 -∗ rcvPay m ρ c (1, 0) -∗ Q r)
      -∗ wpc c (onBufs (k0_part6 (F := F)) c v2 v5 v8 v12 v17) Q) := by
  unfold onBufs wpc
  rw [k0_part6_eq_skeleton]
  unfold k0_part6_skel
  simp only [Prog.lift, Prog.bind_op, Prog.bind_ret, Prog.pure_eq_ret]
  iintro #HR HL H40 H50 Hk
  iapply (step_sendG m ρ K c _ 4 1 (4, 0) rfl (dev9 c) (by decide) (off_a' c 0) rfl rfl rfl rfl) $$ HR HL H40
  iintro HL
  iapply (step_sendG m ρ K c _ 5 1 (5, 0) rfl (dev10 c) (by decide) (off_b' c 0) rfl rfl rfl rfl) $$ HR HL H50
  iintro HL
  iapply (step_recv m ρ K c 6 1 (1, 0) rfl (by decide) rfl rfl) $$ HR HL
  iintro HL P10
  rw [wp_ret]
  imodintro
  iapply Hk $$ %_ HL P10

theorem part7 (c : Dev nD) (v2 v5 v8 v12 v17 v203 : BitVec 32) {Q} :
    recs m ρ K ⊢ iprop(ledger (F := F) c 6 2 -∗ sndPay m ρ c (1, 1) -∗ sndPay m ρ c (0, 1)
      -∗ (∀ r, ledger (F := F) c 8 2 -∗ Q r)
      -∗ wpc c (onBufs (k0_part7 (F := F)) c v2 v5 v8 v12 v17 v203) Q) := by
  unfold onBufs wpc
  rw [k0_part7_eq_skeleton]
  unfold k0_part7_skel
  simp only [Prog.lift, Prog.bind_op, Prog.bind_ret, Prog.pure_eq_ret]
  iintro #HR HL H11 H01 Hk
  iapply (step_sendS m ρ K c _ 6 2 (1, 1) rfl (dev11 c) rfl (off_st c 0) rfl rfl rfl rfl) $$ HR HL H11
  iintro HL
  iapply (step_sendG m ρ K c _ 7 2 (0, 1) rfl (dev12 c) (by decide) (off_y c 0) rfl rfl rfl rfl) $$ HR HL H01
  iintro HL
  rw [wp_ret]
  imodintro
  iapply Hk $$ %_ HL

theorem part8 (c : Dev nD) (v2 v5 v8 v13 v25 : BitVec 32) {Q} :
    recs m ρ K ⊢ iprop(ledger (F := F) c 8 2
      -∗ (∀ r, ledger (F := F) c 9 4 -∗ lft m ρ c (4, 0) -∗ rcvPay m ρ c (3, 0) -∗ Q r)
      -∗ wpc c (onBufs (k0_part8 (F := F)) c v2 v5 v8 v13 v25) Q) := by
  unfold onBufs wpc
  rw [k0_part8_eq_skeleton]
  unfold k0_part8_skel
  simp only [Prog.lift, Prog.bind_op, Prog.bind_ret, Prog.pure_eq_ret]
  iintro #HR HL Hk
  iapply (step_recv m ρ K c 8 2 (4, 0) rfl (by decide) rfl rfl) $$ HR HL
  iintro HL P40
  ihave P40 := take_z m ρ c 0 $$ P40
  icases P40 with ⟨L40, H60⟩
  iapply (step_sendG m ρ K c _ 8 3 (6, 0) rfl (dev13 c) (by decide) (off_xr c 0) rfl rfl rfl rfl) $$ HR HL H60
  iintro HL
  iapply (step_recv m ρ K c 9 3 (3, 0) rfl (by decide) rfl rfl) $$ HR HL
  iintro HL P30
  rw [wp_ret]
  imodintro
  iapply Hk $$ %_ HL L40 P30

theorem part9 (c : Dev nD) (v2 v5 v8 v12 v13 v17 v21 v272 c4 : BitVec 32) {Q} :
    recs m ρ K ⊢ iprop(ledger (F := F) c 9 4 -∗ sndPay m ρ c (7, 0)
      -∗ (∀ r, ledger (F := F) c 10 5 -∗ rcvPay m ρ c (0, 1) -∗ Q r)
      -∗ wpc c (onBufs (k0_part9 (F := F)) c v2 v5 v8 v12 v13 v17 v21 v272 c4) Q) := by
  unfold onBufs wpc
  rw [k0_part9_eq_skeleton]
  unfold k0_part9_skel
  simp only [Prog.lift, Prog.bind_op, Prog.bind_ret, Prog.pure_eq_ret]
  iintro #HR HL H70 Hk
  iapply (step_sendG m ρ K c _ 9 4 (7, 0) rfl (dev14 c) (by decide) (off_zr c 0) rfl rfl rfl rfl) $$ HR HL H70
  iintro HL
  iapply (step_recv m ρ K c 10 4 (0, 1) rfl (by decide) rfl rfl) $$ HR HL
  iintro HL P01
  rw [wp_ret]
  imodintro
  iapply Hk $$ %_ HL P01

theorem part10 (c : Dev nD) (v2 v5 v8 v13 v17 : BitVec 32) {Q} :
    recs m ρ K ⊢ iprop(ledger (F := F) c 10 5 -∗ sndPay m ρ c (3, 1) -∗ sndPay m ρ c (2, 1) -∗ sndPay m ρ c (4, 1)
      -∗ (∀ r, ledger (F := F) c 13 5 -∗ Q r)
      -∗ wpc c (onBufs (k0_part10 (F := F)) c v2 v5 v8 v13 v17) Q) := by
  unfold onBufs wpc
  rw [k0_part10_eq_skeleton]
  unfold k0_part10_skel
  simp only [Prog.lift, Prog.bind_op, Prog.bind_ret, Prog.pure_eq_ret]
  iintro #HR HL H31 H21 H41 Hk
  iapply (step_sendG m ρ K c _ 10 5 (3, 1) rfl (dev15 c) (by decide) (off_b c 1) rfl rfl rfl rfl) $$ HR HL H31
  iintro HL
  iapply (step_sendG m ρ K c _ 11 5 (2, 1) rfl (dev16 c) (by decide) (off_a c 1) rfl rfl rfl rfl) $$ HR HL H21
  iintro HL
  iapply (step_sendG m ρ K c _ 12 5 (4, 1) rfl (dev17 c) (by decide) (off_a' c 1) rfl rfl rfl rfl) $$ HR HL H41
  iintro HL
  rw [wp_ret]
  imodintro
  iapply Hk $$ %_ HL

theorem part11 (c : Dev nD) (v2 v5 v8 v12 v17 v344 : BitVec 32) {Q} :
    recs m ρ K ⊢ iprop(ledger (F := F) c 13 5 -∗ sndPay m ρ c (5, 1)
      -∗ (∀ r, ledger (F := F) c 14 6 -∗ rcvPay m ρ c (1, 1) -∗ Q r)
      -∗ wpc c (onBufs (k0_part11 (F := F)) c v2 v5 v8 v12 v17 v344) Q) := by
  unfold onBufs wpc
  rw [k0_part11_eq_skeleton]
  unfold k0_part11_skel
  simp only [Prog.lift, Prog.bind_op, Prog.bind_ret, Prog.pure_eq_ret]
  iintro #HR HL H51 Hk
  iapply (step_sendG m ρ K c _ 13 5 (5, 1) rfl (dev18 c) (by decide) (off_b' c 1) rfl rfl rfl rfl) $$ HR HL H51
  iintro HL
  iapply (step_recv m ρ K c 14 5 (1, 1) rfl (by decide) rfl rfl) $$ HR HL
  iintro HL P11
  rw [wp_ret]
  imodintro
  iapply Hk $$ %_ HL P11

theorem part12 (c : Dev nD) (v2 v5 v8 v12 v17 : BitVec 32) {Q} :
    recs m ρ K ⊢ iprop(ledger (F := F) c 14 6 -∗ sndPay m ρ c (1, 2) -∗ sndPay m ρ c (0, 2)
      -∗ (∀ r, ledger (F := F) c 16 7 -∗ rcvPay m ρ c (4, 1) -∗ Q r)
      -∗ wpc c (onBufs (k0_part12 (F := F)) c v2 v5 v8 v12 v17) Q) := by
  unfold onBufs wpc
  rw [k0_part12_eq_skeleton]
  unfold k0_part12_skel
  simp only [Prog.lift, Prog.bind_op, Prog.bind_ret, Prog.pure_eq_ret]
  iintro #HR HL H12 H02 Hk
  iapply (step_sendS m ρ K c _ 14 6 (1, 2) rfl (dev19 c) rfl (off_st c 1) rfl rfl rfl rfl) $$ HR HL H12
  iintro HL
  iapply (step_sendG m ρ K c _ 15 6 (0, 2) rfl (dev20 c) (by decide) (off_y c 1) rfl rfl rfl rfl) $$ HR HL H02
  iintro HL
  iapply (step_recv m ρ K c 16 6 (4, 1) rfl (by decide) rfl rfl) $$ HR HL
  iintro HL P41
  rw [wp_ret]
  imodintro
  iapply Hk $$ %_ HL P41

theorem part13 (c : Dev nD) (v2 v5 v8 v13 v17 v25 c16 : BitVec 32) {Q} :
    recs m ρ K ⊢ iprop(ledger (F := F) c 16 7 -∗ sndPay m ρ c (6, 1)
      -∗ (∀ r, ledger (F := F) c 17 8 -∗ rcvPay m ρ c (3, 1) -∗ Q r)
      -∗ wpc c (onBufs (k0_part13 (F := F)) c v2 v5 v8 v13 v17 v25 c16) Q) := by
  unfold onBufs wpc
  rw [k0_part13_eq_skeleton]
  unfold k0_part13_skel
  simp only [Prog.lift, Prog.bind_op, Prog.bind_ret, Prog.pure_eq_ret]
  iintro #HR HL H61 Hk
  iapply (step_sendG m ρ K c _ 16 7 (6, 1) rfl (dev21 c) (by decide) (off_xr c 1) rfl rfl rfl rfl) $$ HR HL H61
  iintro HL
  iapply (step_recv m ρ K c 17 7 (3, 1) rfl (by decide) rfl rfl) $$ HR HL
  iintro HL P31
  rw [wp_ret]
  imodintro
  iapply Hk $$ %_ HL P31

theorem part18 (c : Dev nD) (v2 v5 v8 v13 v17 : BitVec 32) {Q} :
    recs m ρ K ⊢ iprop(ledger (F := F) c 18 14 -∗ sndPay m ρ c (3, 2) -∗ sndPay m ρ c (2, 2) -∗ sndPay m ρ c (4, 2)
      -∗ (∀ r, ledger (F := F) c 21 14 -∗ Q r)
      -∗ wpc c (onBufs (k0_part18 (F := F)) c v2 v5 v8 v13 v17) Q) := by
  unfold onBufs wpc
  rw [k0_part18_eq_skeleton]
  unfold k0_part18_skel
  simp only [Prog.lift, Prog.bind_op, Prog.bind_ret, Prog.pure_eq_ret]
  iintro #HR HL H32 H22 H42 Hk
  iapply (step_sendG m ρ K c _ 18 14 (3, 2) rfl (dev23 c) (by decide) (off_b c 2) rfl rfl rfl rfl) $$ HR HL H32
  iintro HL
  iapply (step_sendG m ρ K c _ 19 14 (2, 2) rfl (dev24 c) (by decide) (off_a c 2) rfl rfl rfl rfl) $$ HR HL H22
  iintro HL
  iapply (step_sendG m ρ K c _ 20 14 (4, 2) rfl (dev25 c) (by decide) (off_a' c 2) rfl rfl rfl rfl) $$ HR HL H42
  iintro HL
  rw [wp_ret]
  imodintro
  iapply Hk $$ %_ HL

theorem part19 (c : Dev nD) (v2 v5 v8 v13 v17 v624 : BitVec 32) {Q} :
    recs m ρ K ⊢ iprop(ledger (F := F) c 21 14 -∗ sndPay m ρ c (5, 2)
      -∗ (∀ r, ledger (F := F) c 22 15 -∗ rcvPay m ρ c (4, 2) -∗ Q r)
      -∗ wpc c (onBufs (k0_part19 (F := F)) c v2 v5 v8 v13 v17 v624) Q) := by
  unfold onBufs wpc
  rw [k0_part19_eq_skeleton]
  unfold k0_part19_skel
  simp only [Prog.lift, Prog.bind_op, Prog.bind_ret, Prog.pure_eq_ret]
  iintro #HR HL H52 Hk
  iapply (step_sendG m ρ K c _ 21 14 (5, 2) rfl (dev26 c) (by decide) (off_b' c 2) rfl rfl rfl rfl) $$ HR HL H52
  iintro HL
  iapply (step_recv m ρ K c 22 14 (4, 2) rfl (by decide) rfl rfl) $$ HR HL
  iintro HL P42
  rw [wp_ret]
  imodintro
  iapply Hk $$ %_ HL P42

theorem part20 (c : Dev nD) (v2 v5 v8 v13 v17 v25 : BitVec 32) {Q} :
    recs m ρ K ⊢ iprop(ledger (F := F) c 22 15 -∗ sndPay m ρ c (6, 2)
      -∗ (∀ r, ledger (F := F) c 24 16 -∗ lft m ρ c (3, 2) -∗ Q r)
      -∗ wpc c (onBufs (k0_part20 (F := F)) c v2 v5 v8 v13 v17 v25) Q) := by
  unfold onBufs wpc
  rw [k0_part20_eq_skeleton]
  unfold k0_part20_skel
  simp only [Prog.lift, Prog.bind_op, Prog.bind_ret, Prog.pure_eq_ret]
  iintro #HR HL H62 Hk
  iapply (step_sendG m ρ K c _ 22 15 (6, 2) rfl (dev27 c) (by decide) (off_xr c 2) rfl rfl rfl rfl) $$ HR HL H62
  iintro HL
  iapply (step_recv m ρ K c 23 15 (3, 2) rfl (by decide) rfl rfl) $$ HR HL
  iintro HL P32
  ihave P32 := take_x m ρ c 2 $$ P32
  icases P32 with ⟨L32, H72⟩
  iapply (step_sendG m ρ K c _ 23 16 (7, 2) rfl (dev28 c) (by decide) (off_zr c 2) rfl rfl rfl rfl) $$ HR HL H72
  iintro HL
  rw [wp_ret]
  imodintro
  iapply Hk $$ %_ HL L32

theorem part21 (c : Dev nD) (v2 v5 v8 v13 v17 v694 c4 : BitVec 32) {Q} :
    recs m ρ K ⊢ iprop(ledger (F := F) c 24 16
      -∗ (∀ r, ledger (F := F) c 24 19 -∗ rcvPay m ρ c (2, 1) -∗ rcvPay m ρ c (5, 1) -∗ rcvPay m ρ c (6, 1) -∗ Q r)
      -∗ wpc c (onBufs (k0_part21 (F := F)) c v2 v5 v8 v13 v17 v694 c4) Q) := by
  unfold onBufs wpc
  rw [k0_part21_eq_skeleton]
  unfold k0_part21_skel
  simp only [Prog.lift, Prog.bind_op, Prog.bind_ret, Prog.pure_eq_ret]
  iintro #HR HL Hk
  iapply (step_recv m ρ K c 24 16 (2, 1) rfl (by decide) rfl rfl) $$ HR HL
  iintro HL P21
  iapply (step_recv m ρ K c 24 17 (5, 1) rfl (by decide) rfl rfl) $$ HR HL
  iintro HL P51
  iapply (step_recv m ρ K c 24 18 (6, 1) rfl (by decide) rfl rfl) $$ HR HL
  iintro HL P61
  rw [wp_ret]
  imodintro
  iapply Hk $$ %_ HL P21 P51 P61

theorem part23 (c : Dev nD) (v2 v5 v8 v13 v17 v764 v765 : BitVec 32) {Q} :
    recs m ρ K ⊢ iprop(ledger (F := F) c 24 20
      -∗ (∀ r, ledger (F := F) c 24 23 -∗ rcvPay m ρ c (2, 2) -∗ rcvPay m ρ c (5, 2) -∗ rcvPay m ρ c (6, 2) -∗ Q r)
      -∗ wpc c (onBufs (k0_part23 (F := F)) c v2 v5 v8 v13 v17 v764 v765) Q) := by
  unfold onBufs wpc
  rw [k0_part23_eq_skeleton]
  unfold k0_part23_skel
  simp only [Prog.lift, Prog.bind_op, Prog.bind_ret, Prog.pure_eq_ret]
  iintro #HR HL Hk
  iapply (step_recv m ρ K c 24 20 (2, 2) rfl (by decide) rfl rfl) $$ HR HL
  iintro HL P22
  iapply (step_recv m ρ K c 24 21 (5, 2) rfl (by decide) rfl rfl) $$ HR HL
  iintro HL P52
  iapply (step_recv m ρ K c 24 22 (6, 2) rfl (by decide) rfl rfl) $$ HR HL
  iintro HL P62
  rw [wp_ret]
  imodintro
  iapply Hk $$ %_ HL P22 P52 P62

theorem part25 (c : Dev nD) {Q} :
    recs m ρ K ⊢ iprop(ledger₂ m ρ c 0 -∗ (∀ r, ledger₂ m ρ c 5 -∗ Q r) -∗ wpc c (onBufs (k0_part25 (F := F)) c) Q) := by
  unfold onBufs wpc
  rw [k0_part25_eq_skeleton]
  unfold k0_part25_skel
  simp only [Prog.lift, Prog.bind_op, Prog.bind_ret, Prog.pure_eq_ret]
  iintro #HR HL Hk
  iapply (step_sent m ρ K c 0 (1, 0) rfl rfl rfl) $$ HR HL
  iintro HL
  iapply (step_sent m ρ K c 1 (0, 0) rfl rfl rfl) $$ HR HL
  iintro HL
  iapply (step_sent m ρ K c 2 (2, 0) rfl rfl rfl) $$ HR HL
  iintro HL
  iapply (step_sent m ρ K c 3 (3, 0) rfl rfl rfl) $$ HR HL
  iintro HL
  iapply (step_sent m ρ K c 4 (4, 0) rfl rfl rfl) $$ HR HL
  iintro HL
  rw [wp_ret]
  imodintro
  iapply Hk $$ %_ HL

theorem part26 (c : Dev nD) {Q} :
    recs m ρ K ⊢ iprop(ledger₂ m ρ c 5 -∗ (∀ r, ledger₂ m ρ c 10 -∗ Q r) -∗ wpc c (onBufs (k0_part26 (F := F)) c) Q) := by
  unfold onBufs wpc
  rw [k0_part26_eq_skeleton]
  unfold k0_part26_skel
  simp only [Prog.lift, Prog.bind_op, Prog.bind_ret, Prog.pure_eq_ret]
  iintro #HR HL Hk
  iapply (step_sent m ρ K c 5 (5, 0) rfl rfl rfl) $$ HR HL
  iintro HL
  iapply (step_sent m ρ K c 6 (1, 1) rfl rfl rfl) $$ HR HL
  iintro HL
  iapply (step_sent m ρ K c 7 (0, 1) rfl rfl rfl) $$ HR HL
  iintro HL
  iapply (step_sent m ρ K c 8 (6, 0) rfl rfl rfl) $$ HR HL
  iintro HL
  iapply (step_sent m ρ K c 9 (7, 0) rfl rfl rfl) $$ HR HL
  iintro HL
  rw [wp_ret]
  imodintro
  iapply Hk $$ %_ HL

theorem part27 (c : Dev nD) {Q} :
    recs m ρ K ⊢ iprop(ledger₂ m ρ c 10 -∗ (∀ r, ledger₂ m ρ c 15 -∗ Q r) -∗ wpc c (onBufs (k0_part27 (F := F)) c) Q) := by
  unfold onBufs wpc
  rw [k0_part27_eq_skeleton]
  unfold k0_part27_skel
  simp only [Prog.lift, Prog.bind_op, Prog.bind_ret, Prog.pure_eq_ret]
  iintro #HR HL Hk
  iapply (step_sent m ρ K c 10 (2, 1) rfl rfl rfl) $$ HR HL
  iintro HL
  iapply (step_sent m ρ K c 11 (3, 1) rfl rfl rfl) $$ HR HL
  iintro HL
  iapply (step_sent m ρ K c 12 (4, 1) rfl rfl rfl) $$ HR HL
  iintro HL
  iapply (step_sent m ρ K c 13 (5, 1) rfl rfl rfl) $$ HR HL
  iintro HL
  iapply (step_sent m ρ K c 14 (1, 2) rfl rfl rfl) $$ HR HL
  iintro HL
  rw [wp_ret]
  imodintro
  iapply Hk $$ %_ HL

theorem part28 (c : Dev nD) {Q} :
    recs m ρ K ⊢ iprop(ledger₂ m ρ c 15 -∗ (∀ r, ledger₂ m ρ c 20 -∗ Q r) -∗ wpc c (onBufs (k0_part28 (F := F)) c) Q) := by
  unfold onBufs wpc
  rw [k0_part28_eq_skeleton]
  unfold k0_part28_skel
  simp only [Prog.lift, Prog.bind_op, Prog.bind_ret, Prog.pure_eq_ret]
  iintro #HR HL Hk
  iapply (step_sent m ρ K c 15 (0, 2) rfl rfl rfl) $$ HR HL
  iintro HL
  iapply (step_sent m ρ K c 16 (6, 1) rfl rfl rfl) $$ HR HL
  iintro HL
  iapply (step_sent m ρ K c 17 (7, 1) rfl rfl rfl) $$ HR HL
  iintro HL
  iapply (step_sent m ρ K c 18 (2, 2) rfl rfl rfl) $$ HR HL
  iintro HL
  iapply (step_sent m ρ K c 19 (3, 2) rfl rfl rfl) $$ HR HL
  iintro HL
  rw [wp_ret]
  imodintro
  iapply Hk $$ %_ HL

theorem part29 (c : Dev nD) {Q} :
    recs m ρ K ⊢ iprop(ledger₂ m ρ c 20 -∗ cpRun (F := F) c 0 -∗ (∀ r, ledger₂ m ρ c 24 -∗ semVal (cpCell c 0) 0 -∗ cpPay m ρ c 0 -∗ Q r)
      -∗ wpc c (onBufs (k0_part29 (F := F)) c) Q) := by
  unfold onBufs wpc
  rw [k0_part29_eq_skeleton]
  unfold k0_part29_skel
  simp only [Prog.lift, Prog.bind_op, Prog.bind_ret, Prog.pure_eq_ret]
  iintro #HR HL Hc Hk
  iapply (step_sent m ρ K c 20 (4, 2) rfl rfl rfl) $$ HR HL
  iintro HL
  iapply (step_sent m ρ K c 21 (5, 2) rfl rfl rfl) $$ HR HL
  iintro HL
  iapply (step_sent m ρ K c 22 (6, 2) rfl rfl rfl) $$ HR HL
  iintro HL
  iapply (step_sent m ρ K c 23 (7, 2) rfl rfl rfl) $$ HR HL
  iintro HL
  iapply (step_cpWait m ρ K c 0 rfl 24 rfl) $$ HR HL Hc
  iintro HL Hz HP
  rw [wp_ret]
  imodintro
  iapply Hk $$ %_ HL Hz HP

end Cert.Proof.Run
-- ==== Proof.PartsB.lean ====
/-
The parts of the kernel that read and write the buffers.
-/
module

public import proofs.«01_k».proof.Proof.PartsA

@[expose] public section

noncomputable section

namespace Cert.Proof.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Option KS → ℕ)

/-! ## Loads and stores of one slot -/

theorem wpc_ret (c : Dev nD) {α : Type} (a : α) (Q : α → sProp 𝕄) : Q a ⊢ wpc (F := F) c (.ret a) Q := by
  unfold wpc
  rw [wp_ret]
  iintro H
  imodintro
  iexact H

theorem step_loadG (c : Dev nD) {s : ℕ} (hs : s < 4) {S : Finset S4x256x4096.Idx} (hS : gReg s 0 8 ⊆ S) {q : PosShare TreeShare} (f)
    {off : Fin 3 → ℕ} {inb : ∀ a, off a + S1x256x4096.size a ≤ S4x256x4096.size a} (h : off = ![s, 0, 0]) {hl}
    {α : Type} {Q : α → sProp 𝕄} {k : (S1x256x4096.Idx → Elt F .bf16) → Prog (TpuEff nD τ sig (Elt F) Λ₀ .tc) α} :
    ⊢ iprop(gP (F := F) c S q f -∗ (gP c S q f -∗ wpc c (k fun j => f (atSlot s j)) Q)
      -∗ wpc c (.op (.load (Memref.whole cc0_scratch0) (Rect.unit (s := S4x256x4096) off S1x256x4096.size inb).toLoadRect hl) k) Q) := by
  have e : (Memref.whole cc0_scratch0).view.setOn (Rect.unit (s := S4x256x4096) off S1x256x4096.size inb).toLoadRect.set
      = (Rect.unit (s := S4x256x4096) off S1x256x4096.size inb).set := (View.set_slice _ _).symm.trans (View.set_slice_whole (κ := .tc) cc0_scratch0 (Rect.unit (s := S4x256x4096) off S1x256x4096.size inb))
  have hS' : (Memref.whole cc0_scratch0).view.setOn (Rect.unit (s := S4x256x4096) off S1x256x4096.size inb).toLoadRect.set ⊆ S := by
    rw [e, slot_set h]
    exact hS
  iintro HG Hk
  iapply (wp_load 𝒱₀ (c : Thread nD τ) none Set.univ (m := Memref.whole cc0_scratch0) hS') $$ HG
  rw [load_gather hs h]
  iexact Hk

theorem step_loadT (c : Dev nD) {s : ℕ} (hs : s < 4) (f)
    {off : Fin 3 → ℕ} {inb : ∀ a, off a + S1x256x4096.size a ≤ S4x256x4096.size a} (h : off = ![s, 0, 0]) {hl}
    {α : Type} {Q : α → sProp 𝕄} {k : (S1x256x4096.Idx → Elt F .f32) → Prog (TpuEff nD τ sig (Elt F) Λ₀ .tc) α} :
    ⊢ iprop(tP (F := F) c (gReg s 0 8) f -∗ (tP c (gReg s 0 8) f -∗ wpc c (k fun j => f (atSlot s j)) Q)
      -∗ wpc c (.op (.load (Memref.whole cc0_scratch2) (Rect.unit (s := S4x256x4096) off S1x256x4096.size inb).toLoadRect hl) k) Q) := by
  have e : (Memref.whole cc0_scratch2).view.setOn (Rect.unit (s := S4x256x4096) off S1x256x4096.size inb).toLoadRect.set
      = (Rect.unit (s := S4x256x4096) off S1x256x4096.size inb).set := (View.set_slice _ _).symm.trans (View.set_slice_whole (κ := .tc) cc0_scratch2 (Rect.unit (s := S4x256x4096) off S1x256x4096.size inb))
  have hS' : (Memref.whole cc0_scratch2).view.setOn (Rect.unit (s := S4x256x4096) off S1x256x4096.size inb).toLoadRect.set ⊆ gReg s 0 8 := by
    rw [e, slot_set h]
  iintro HG Hk
  iapply (wp_load 𝒱₀ (c : Thread nD τ) none Set.univ (m := Memref.whole cc0_scratch2) hS') $$ HG
  rw [load_stage hs h]
  iexact Hk

theorem step_storeG (c : Dev nD) {s : ℕ} (hs : s < 4) (f g)
    {off : Fin 3 → ℕ} {inb : ∀ a, off a + S1x256x4096.size a ≤ S4x256x4096.size a} (h : off = ![s, 0, 0])
    {w : S1x256x4096.Idx → Elt F .bf16} (hw : ∀ i ∈ gReg s 0 8, w (inSlot i) = g i) {hx hm}
    {α : Type} {Q : α → sProp 𝕄} {k : PUnit → Prog (TpuEff nD τ sig (Elt F) Λ₀ .tc) α} :
    ⊢ iprop(gP (F := F) c (gReg s 0 8) fullShare f -∗ (gP c (gReg s 0 8) fullShare g -∗ wpc c (k ⟨⟩) Q)
      -∗ wpc c (.op (.store (Memref.whole cc0_scratch0) (Rect.unit (s := S4x256x4096) off S1x256x4096.size inb) w Finset.univ hx hm) k) Q) := by
  have hc : ∀ i ∈ gReg s 0 8, ((Memref.whole cc0_scratch0).access (Rect.unit (s := S4x256x4096) off S1x256x4096.size inb)).write (Elt F) f w Finset.univ i = g i :=
    fun i hi => (store_gather hs h f w i hi).trans (hw i hi)
  have hS' : ((Memref.whole cc0_scratch0).access (Rect.unit (s := S4x256x4096) off S1x256x4096.size inb)).setOn Finset.univ ⊆ gReg s 0 8 := by
    rw [← slot_set (inb := inb) h]
    exact (View.set_slice_whole (κ := .tc) cc0_scratch0 _).le
  iintro HG Hk
  iapply (wp_store 𝒱₀ (c : Thread nD τ) none Set.univ (m := Memref.whole cc0_scratch0) (Mk := Finset.univ) hS') $$ HG
  iintro HG
  iapply Hk
  iapply (Entails.of_eq (pointsTo_congr hc))
  iexact HG

theorem step_storeT (c : Dev nD) {s : ℕ} (hs : s < 4) (f g)
    {off : Fin 3 → ℕ} {inb : ∀ a, off a + S1x256x4096.size a ≤ S4x256x4096.size a} (h : off = ![s, 0, 0])
    {w : S1x256x4096.Idx → Elt F .f32} (hw : ∀ i ∈ gReg s 0 8, w (inSlot i) = g i) {hx hm}
    {α : Type} {Q : α → sProp 𝕄} {k : PUnit → Prog (TpuEff nD τ sig (Elt F) Λ₀ .tc) α} :
    ⊢ iprop(tP (F := F) c (gReg s 0 8) f -∗ (tP c (gReg s 0 8) g -∗ wpc c (k ⟨⟩) Q)
      -∗ wpc c (.op (.store (Memref.whole cc0_scratch2) (Rect.unit (s := S4x256x4096) off S1x256x4096.size inb) w Finset.univ hx hm) k) Q) := by
  have hc : ∀ i ∈ gReg s 0 8, ((Memref.whole cc0_scratch2).access (Rect.unit (s := S4x256x4096) off S1x256x4096.size inb)).write (Elt F) f w Finset.univ i = g i :=
    fun i hi => (store_stage hs h f w i hi).trans (hw i hi)
  have hS' : ((Memref.whole cc0_scratch2).access (Rect.unit (s := S4x256x4096) off S1x256x4096.size inb)).setOn Finset.univ ⊆ gReg s 0 8 := by
    rw [← slot_set (inb := inb) h]
    exact (View.set_slice_whole (κ := .tc) cc0_scratch2 _).le
  iintro HG Hk
  iapply (wp_store 𝒱₀ (c : Thread nD τ) none Set.univ (m := Memref.whole cc0_scratch2) (Mk := Finset.univ) hS') $$ HG
  iintro HG
  iapply Hk
  iapply (Entails.of_eq (pointsTo_congr hc))
  iexact HG

/-- One slot of the staging buffer filled and sent to the result. -/
theorem step_fill (c : Dev nD) (u : Fin 4) (f fd)
    {off : Fin 3 → ℕ} {inb : ∀ a, off a + S1x256x4096.size a ≤ S4x256x4096.size a} (h : off = ![cpSlot u c, 0, 0]) {hl}
    {w : S1x256x4096.Idx → Elt F .f32} (hw : w = stRow m ρ c (cpSlot u c)) {hx hm}
    {off₁ : Fin 2 → ℕ} {inb₁ : ∀ a, off₁ a + S256x4096.size a ≤ S256x16384.size a}
    {off₂ : Fin 3 → ℕ} {inb₂ : ∀ a, off₂ a + S1x256x4096.size a ≤ S4x256x4096.size a} {hr hr' hq}
    (h₁ : off₁ = ![0, 4096 * cpSlot u c]) (h₂ : off₂ = ![cpSlot u c, 0, 0])
    (hN : ((Memref.whole main_v1).slice (Rect.unit (s := S256x16384) off₁ S256x4096.size inb₁) hr).view.dmaCredit = NC)
    {q : DmaSem sig} (hqe : q = enc (.inl u)) {hsrc hdst hsem}
    {α : Type} {Q : α → sProp 𝕄} {k : PUnit → Prog (TpuEff nD τ sig (Elt F) Λ₀ .tc) α} :
    recs m ρ K ⊢ iprop(cpTok (F := F) c u -∗ tP (F := F) c (gReg (cpSlot u c) 0 8) f -∗ oP (F := F) c (oReg (cpSlot u c)) fd
      -∗ (cpRun (F := F) c u -∗ wpc c (k ⟨⟩) Q)
      -∗ wpc c (.op (.load (Memref.whole cc0_scratch2) (Rect.unit (s := S4x256x4096) off S1x256x4096.size inb).toLoadRect hl) fun _ =>
          .op (.store (Memref.whole cc0_scratch2) (Rect.unit (s := S4x256x4096) off S1x256x4096.size inb) w Finset.univ hx hm) fun _ =>
          .op (.enqueueDma (((Memref.whole cc0_scratch2).slice (Rect.unit (s := S4x256x4096) off₂ S1x256x4096.size inb₂) hr').squeeze S256x4096 hq)
            (.here ((Memref.whole main_v1).slice (Rect.unit (s := S256x16384) off₁ S256x4096.size inb₁) hr)) (.dma q) hsrc hdst hsem) k) Q) := by
  iintro #HR Hc HT HO Hk
  iapply (step_loadT c (cpSlot_lt u c) f h) $$ HT
  iintro HT
  iapply (step_storeT c (cpSlot_lt u c) f (STF m ρ c) h (by subst hw; exact STF_slot m ρ c _)) $$ HT
  iintro HT
  iapply (step_copy m ρ K c u h₁ h₂ hN hqe) $$ HR Hc HT [HO]
  · iexists fd
    iexact HO
  iexact Hk

theorem slot_lt : ∀ (c : Dev nD) (h : Fin 3), slotN (2, h) c < 4 := by decide +kernel
theorem slot_cp : ∀ (c : Dev nD) (h : Fin 3), cpSlot h.succ c = slotN (2, h) c := by decide +kernel
theorem cp_own : ∀ c : Dev nD, cpSlot 0 c = yC c := by decide +kernel
theorem slot_ne : ∀ (c : Dev nD) (h : Fin 3), slotN (2, h) c ≠ yC c := by decide +kernel
theorem off_sl : ∀ (c : Dev nD) (h : Fin 3), k0_off14 c (BitVec.ofNat 32 (3 - h.val)) = ![slotN (2, h) c, 0, 0] := by decide +kernel
theorem off_cs : ∀ (c : Dev nD) (h : Fin 3), k0_off14 c (BitVec.ofNat 32 (3 - h.val)) = ![cpSlot h.succ c, 0, 0] := by decide +kernel
theorem off_cd : ∀ (c : Dev nD) (h : Fin 3), k0_off15 c (BitVec.ofNat 32 (3 - h.val)) = ![0, 4096 * cpSlot h.succ c] := by decide +kernel
theorem off_cf : ∀ (c : Dev nD) (h : Fin 3), k0_off16 c (BitVec.ofNat 32 (3 - h.val)) = ![cpSlot h.succ c, 0, 0] := by decide +kernel
theorem off_own : ∀ c : Dev nD, k0_off1 c = ![yC c, 0, 0] := by decide +kernel

/-- The values the last steps use. -/
abbrev mx (c : Dev nD) : FVec F S256x1 .f32 := k0_pay9 (maxs m ρ c)
abbrev iv (c : Dev nD) : FVec F S256x1 .f32 := k0_pay10 (maxs m ρ c) (sums m ρ c)

theorem row_other (c : Dev nD) (h : Fin 3) : k0_pay14 (k0_pay13 (mx m ρ c) (iv m ρ c) (gRow m ρ c (slotN (2, h) c))) = stRow m ρ c (cpSlot h.succ c) := by
  rw [slot_cp, stRow_other m ρ c _ (slot_ne c h)]

/-- All seven pieces of a slot give the slot, to be read. -/
theorem slot_in (c : Dev nD) (h : Fin 3) :
    ⊢ iprop(lft m ρ c (0, h) -∗ lft m ρ c (2, h) -∗ lft m ρ c (3, h) -∗ lft m ρ c (4, h) -∗ lft m ρ c (5, h) -∗ lft m ρ c (6, h) -∗ lft m ρ c (7, h)
      -∗ gP c (gReg (slotN (2, h) c) 0 8) fullShare.left (GF m ρ c)) := by
  iintro L0 L2 L3 L4 L5 L6 L7
  iapply (Entails.of_eq (slot_read m ρ c h))
  isplitl [L0]
  · iexact L0
  isplitl [L2]
  · iexact L2
  isplitl [L3]
  · iexact L3
  isplitl [L4]
  · iexact L4
  isplitl [L5]
  · iexact L5
  isplitl [L6]
  · iexact L6
  iexact L7

/-! ## The parts -/

/-- The first part only reads the device's number. -/
theorem part1 (c : Dev nD) {Q} :
    ⊢ iprop((∀ v2 v5 v8 v10 v12 v13 v17 v21 v25 v32, Q ⟨c, v2, v5, v8, v10, v12, v13, v17, v21, v25, SemArray.scalar (sig.barrier 0 rfl), v32⟩)
      -∗ wpc (F := F) c (onBufs (k0_part1 (F := F))) Q) := by
  unfold onBufs wpc
  rw [k0_part1_eq_skeleton]
  unfold k0_part1_skel
  simp only [Prog.lift, Prog.bind_op, Prog.bind_ret, Prog.pure_eq_ret]
  iintro Hk
  rw [wp_deviceId 𝒱₀ (c : Thread nD τ) none Set.univ]
  iapply wpc_ret
  iapply Hk

theorem dev1 : ∀ c : Dev nD, (⟨k0_dev1 c, k0_dev1_lt c⟩ : Dev nD) = left c := by decide +kernel
theorem dev2 : ∀ c : Dev nD, (⟨k0_dev2 c, k0_dev2_lt c⟩ : Dev nD) = right c := by decide +kernel
theorem dev3 : ∀ c : Dev nD, (⟨k0_dev3 c, k0_dev3_lt c⟩ : Dev nD) = px c := by decide +kernel
theorem dev4 : ∀ c : Dev nD, (⟨k0_dev4 c, k0_dev4_lt c⟩ : Dev nD) = pz c := by decide +kernel

/-- The tokens for the four signals. -/
def barToks (c : Dev nD) : sProp 𝕄 :=
  iprop(dutyTok ER (barCell (left c)) 0 (0 : Fin 4) ∗ dutyTok ER (barCell (right c)) 0 (1 : Fin 4)
    ∗ dutyTok ER (barCell (px c)) 0 (2 : Fin 4) ∗ dutyTok ER (barCell (pz c)) 0 (3 : Fin 4))

/-- The signals, and the device's block of the product. -/
theorem part2 (c : Dev nD) (v2 v5 v8 v10 v12 v13 v17 v32 : BitVec 32) {W} (f0) {Q} :
    recs m ρ K ⊢ iprop(owes (c : Thread nD τ) (O₀ c) W -∗ barToks (F := F) c
      -∗ (barPay (F := F) (left c) 0 ∗ barPay (F := F) (right c) 1 ∗ barPay (F := F) (px c) 2 ∗ barPay (F := F) (pz c) 3)
      -∗ (((c : Thread nD τ).loc cc0_stg0_0) ↦{fullShare} xIn m ρ c) -∗ (((c : Thread nD τ).loc cc0_stg1_0) ↦{fullShare} wIn m ρ c)
      -∗ gP (F := F) c (gReg (yC c) 0 8) fullShare f0
      -∗ (owes (c : Thread nD τ) (owed c 0) W -∗ (((c : Thread nD τ).loc cc0_stg0_0) ↦{fullShare} xIn m ρ c)
          -∗ (((c : Thread nD τ).loc cc0_stg1_0) ↦{fullShare} wIn m ρ c) -∗ gP (F := F) c (gReg (yC c) 0 8) fullShare f0
          -∗ Q ⟨lgt m ρ c, k0_pay2 (xIn m ρ c) (wIn m ρ c)⟩)
      -∗ wpc c (onBufs (k0_part2 (F := F)) c v2 v5 v8 v10 v12 v13 v17 (SemArray.scalar (sig.barrier 0 rfl)) v32) Q) := by
  unfold onBufs wpc barToks lgt
  rw [k0_part2_eq_skeleton]
  unfold k0_part2_skel semSignalWord
  simp only [Prog.lift, Prog.bind_op, Prog.bind_ret, Prog.pure_eq_ret]
  iintro #HR HO ⟨T0, T1, T2, T3⟩ ⟨P0, P1, P2, P3⟩ Hx Hw HG Hk
  iapply (step_signal m ρ K c _ (left c) (dev1 c) 0 (O₀ c) (O₁ c) rfl rfl rfl) $$ HR HO T0 P0
  iintro HO
  iapply (step_signal m ρ K c _ (right c) (dev2 c) 1 (O₁ c) (O₂ c) rfl rfl rfl) $$ HR HO T1 P1
  iintro HO
  iapply (step_signal m ρ K c _ (px c) (dev3 c) 2 (O₂ c) (O₃ c) rfl rfl rfl) $$ HR HO T2 P2
  iintro HO
  iapply (step_signal m ρ K c _ (pz c) (dev4 c) 3 (O₃ c) (owed c 0) rfl rfl rfl) $$ HR HO T3 P3
  iintro HO
  iapply (wp_load 𝒱₀ (c : Thread nD τ) none Set.univ (m := Memref.whole cc0_stg0_0) (Finset.subset_univ _)) $$ Hx
  rw [show (Memref.whole cc0_stg0_0).view.readAt (Elt F) (Rect.unit (s := S256x512) ![0, 0] S256x512.size inb_S256x512_S256x512_0_0).toLoadRect (xIn m ρ c) = xIn m ρ c
    from Memref.readAt_unit_zero (Elt F) cc0_stg0_0 (by decide) _ _]
  iintro Hx
  iapply (wp_load 𝒱₀ (c : Thread nD τ) none Set.univ (m := Memref.whole cc0_stg1_0) (Finset.subset_univ _)) $$ Hw
  rw [show (Memref.whole cc0_stg1_0).view.readAt (Elt F) (Rect.unit (s := S512x4096) ![0, 0] S512x4096.size inb_S512x4096_S512x4096_0_0).toLoadRect (wIn m ρ c) = wIn m ρ c
    from Memref.readAt_unit_zero (Elt F) cc0_stg1_0 (by decide) _ _]
  iintro Hw
  iapply (step_loadG c (yC_lt c) (Finset.Subset.refl _) f0 (off_own c)) $$ HG
  iintro HG
  iapply wpc_ret
  iapply Hk $$ HO Hx Hw HG

/-- What the staging buffer holds first: the exponentials of the device's own block. -/
def st0 (c : Dev nD) : (cc0_scratch2 : Ref sig .tc).ty.Contents (Elt F) := fun i => k0_pay6 (lgt m ρ c) (inSlot i)

/-- The stores of the device's own block, and the wait for the neighbours. -/
theorem part3 (c : Dev nD) (v2 v5 v8 v12 : BitVec 32) {W} (f0 f1 f2) {Q} :
    recs m ρ K ⊢ iprop(owes (c : Thread nD τ) (owed c 0) W -∗ atPos ER (barCell c) 0 ∅ 0 -∗ cred (tallyAt (barCell c) () 4)
      -∗ gP (F := F) c (gReg (yC c) 0 8) fullShare f0 -∗ tP (F := F) c (gReg (yC c) 0 8) f2 -∗ sP (F := F) c (sReg (yC c)) fullShare f1
      -∗ (((∃ W, owes (c : Thread nD τ) (owed c 0) W) ∗ semVal (barCell c) 0 ∗ bigSep Finset.univ (dstAny (F := F) c))
          -∗ gP c (gReg (yC c) 0 8) fullShare (GF m ρ c) -∗ tP c (gReg (yC c) 0 8) (st0 m ρ c) -∗ sP c (sReg (yC c)) fullShare (SF m ρ c)
          -∗ Q (k0_pay4 (lgt m ρ c)))
      -∗ wpc c (onBufs (k0_part3 (F := F)) c v2 v5 v8 v12 (SemArray.scalar (sig.barrier 0 rfl)) (lgt m ρ c) (k0_pay2 (xIn m ρ c) (wIn m ρ c))) Q) := by
  have e2 : k0_off2 c = ![yC c, 0, 0] := by revert c; decide +kernel
  have e3 : k0_off3 c = ![yC c, 0, 1] := by revert c; decide +kernel
  have s2 : (Rect.unit (s := S4x256x2) (k0_off2 c) S1x256x1.size (k0_off2_inb c)).set ⊆ sReg (yC c) := by
    rw [col_set e2]
    exact cReg_subset _ _
  have s3 : (Rect.unit (s := S4x256x2) (k0_off3 c) S1x256x1.size (k0_off3_inb c)).set ⊆ sReg (yC c) := by
    rw [col_set e3]
    exact cReg_subset _ _
  unfold onBufs wpc
  rw [k0_part3_eq_skeleton]
  unfold k0_part3_skel semWaitWord
  simp only [Prog.lift, Prog.bind_op, Prog.bind_ret, Prog.pure_eq_ret]
  iintro #HR HO Hat Hc HG HT HS Hk
  iapply (step_storeG c (yC_lt c) f0 (GF m ρ c) (off_own c) (GF_own m ρ c)) $$ HG
  iintro HG
  iapply (step_loadT c (yC_lt c) f2 (off_own c)) $$ HT
  iintro HT
  iapply (step_storeT c (yC_lt c) f2 (st0 m ρ c) (off_own c) (fun i _ => rfl)) $$ HT
  iintro HT
  iapply (wp_load_rect 𝒱₀ (c : Thread nD τ) none Set.univ (m := Memref.whole cc0_scratch1)
    (r := Rect.unit (s := S4x256x2) (k0_off2 c) S1x256x1.size (k0_off2_inb c)) ((View.set_slice_whole (κ := .tc) cc0_scratch1 _).le.trans s2)) $$ HS
  iintro HS
  iapply (wp_store 𝒱₀ (c : Thread nD τ) none Set.univ (m := Memref.whole cc0_scratch1)
    (r := Rect.unit (s := S4x256x2) (k0_off2 c) S1x256x1.size (k0_off2_inb c)) (Mk := Finset.univ) ((View.set_slice_whole (κ := .tc) cc0_scratch1 _).le.trans s2)) $$ HS
  iintro HS
  iapply (wp_load_rect 𝒱₀ (c : Thread nD τ) none Set.univ (m := Memref.whole cc0_scratch1)
    (r := Rect.unit (s := S4x256x2) (k0_off3 c) S1x256x1.size (k0_off3_inb c)) ((View.set_slice_whole (κ := .tc) cc0_scratch1 _).le.trans s3)) $$ HS
  iintro HS
  iapply (wp_store 𝒱₀ (c : Thread nD τ) none Set.univ (m := Memref.whole cc0_scratch1)
    (r := Rect.unit (s := S4x256x2) (k0_off3 c) S1x256x1.size (k0_off3_inb c)) (Mk := Finset.univ) ((View.set_slice_whole (κ := .tc) cc0_scratch1 _).le.trans s3)) $$ HS
  iintro HS
  ihave HS := (Entails.of_eq (pointsTo_congr (store_stats m ρ c e2 e3 f1))) $$ HS
  iapply (step_barrier m ρ K c rfl rfl) $$ HR HO Hat Hc
  iintro HB
  iapply wpc_ret
  iapply Hk $$ HB HG HT HS

/-- All statistics in: the maximum and the inverse sum over the whole row, and the own block rescaled. -/
theorem part14 (c : Dev nD) (v2 v5 v8 v12 : BitVec 32) {Q} :
    recs m ρ K ⊢ iprop(ledger (F := F) c 17 8 -∗ sndPay m ρ c (7, 1)
      -∗ sP c (sReg (yC c)) fullShare.left (SF m ρ c) -∗ lft m ρ c (1, 0) -∗ lft m ρ c (1, 1) -∗ tP c (gReg (yC c) 0 8) (st0 m ρ c)
      -∗ (ledger (F := F) c 18 9 -∗ sP c Finset.univ fullShare.left (SF m ρ c) -∗ rgt m ρ c (1, 2) -∗ tP c (gReg (yC c) 0 8) (st0 m ρ c)
          -∗ Q ⟨mx m ρ c, iv m ρ c, k0_pay11 (k0_pay4 (lgt m ρ c)) (maxs m ρ c) (sums m ρ c) (k0_pay6 (lgt m ρ c))⟩)
      -∗ wpc c (onBufs (k0_part14 (F := F)) c v2 v5 v8 v12 (k0_pay4 (lgt m ρ c))) Q) := by
  unfold onBufs wpc
  rw [k0_part14_eq_skeleton]
  unfold k0_part14_skel
  simp only [Prog.lift, Prog.bind_op, Prog.bind_ret, Prog.pure_eq_ret]
  iintro #HR HL H7 S0 S1 S2 HT Hk
  iapply (step_sendG m ρ K c _ 17 8 (7, 1) rfl (dev22 c) (by decide) (off_zr c 1) rfl rfl rfl rfl) $$ HR HL H7
  iintro HL
  iapply (step_recv m ρ K c 18 8 (1, 2) rfl (by decide) rfl rfl) $$ HR HL
  iintro HL HP
  ihave HP := (halves m ρ c (1, 2)).1 $$ HP
  icases HP with ⟨S3, HG⟩
  ihave HS := (cut_s c fullShare.left (SF m ρ c)).2 $$ [S0 S1 S2 S3]
  · isplitl [S0]
    · iexact S0
    isplitl [S1]
    · iapply (Entails.of_eq (lft_stats m ρ c 0)); iexact S1
    isplitl [S2]
    · iapply (Entails.of_eq (lft_stats m ρ c 1)); iexact S2
    iapply (Entails.of_eq (lft_stats m ρ c 2)); iexact S3
  iapply (wp_load 𝒱₀ (c : Thread nD τ) none Set.univ (m := Memref.whole cc0_scratch1) (Finset.subset_univ _)) $$ HS
  rw [load_maxs]
  iintro HS
  iapply (wp_load 𝒱₀ (c : Thread nD τ) none Set.univ (m := Memref.whole cc0_scratch1) (Finset.subset_univ _)) $$ HS
  rw [load_sums]
  iintro HS
  iapply (step_loadT c (yC_lt c) (st0 m ρ c) (off_own c)) $$ HT
  iintro HT
  rw [show (fun j => st0 m ρ c (atSlot (yC c) j)) = k0_pay6 (lgt m ρ c) from funext fun j => congrArg (k0_pay6 (lgt m ρ c)) (inSlot_atSlot (yC c) j)]
  iapply wpc_ret
  iapply Hk $$ HL HS HG HT

theorem part15 (c : Dev nD) (v2 v5 v8 v13 v17 : BitVec 32) (fd) {Q} :
    recs m ρ K ⊢ iprop(ledger (F := F) c 18 9 -∗ cpTok (F := F) c 0 -∗ tP c (gReg (yC c) 0 8) (st0 m ρ c) -∗ oP (F := F) c (oReg (yC c)) fd
      -∗ (∀ r, ledger (F := F) c 18 10 -∗ cpRun (F := F) c 0 -∗ rcvPay m ρ c (2, 0) -∗ Q r)
      -∗ wpc c (onBufs (k0_part15 (F := F)) c v2 v5 v8 v13 v17
          (k0_pay11 (k0_pay4 (lgt m ρ c)) (maxs m ρ c) (sums m ρ c) (k0_pay6 (lgt m ρ c)))) Q) := by
  unfold onBufs wpc
  rw [k0_part15_eq_skeleton]
  unfold k0_part15_skel
  simp only [Prog.lift, Prog.bind_op, Prog.bind_ret, Prog.pure_eq_ret]
  rw [← cp_own]
  iintro #HR HL Hc HT HO Hk
  iapply (step_fill m ρ K c 0 (st0 m ρ c) fd ((off_own c).trans (by rw [cp_own])) ((stRow_own m ρ c).symm.trans (congrArg (stRow m ρ c) (cp_own c).symm))
    ((by decide +kernel : ∀ c : Dev nD, k0_off12 c = ![0, 4096 * cpSlot 0 c]) c) ((by decide +kernel : ∀ c : Dev nD, k0_off13 c = ![cpSlot 0 c, 0, 0]) c)
    rfl rfl) $$ HR Hc HT HO
  iintro Hc
  iapply (step_recv m ρ K c 18 9 (2, 0) rfl (by decide) rfl rfl) $$ HR HL
  iintro HL HP
  iapply wpc_ret
  iapply Hk $$ %_ HL Hc HP

theorem part16 (c : Dev nD) (v2 v5 v8 v13 v17 : BitVec 32) {Q} :
    recs m ρ K ⊢ iprop(ledger (F := F) c 18 10 -∗ lft m ρ c (0, 0) -∗ lft m ρ c (2, 0) -∗ lft m ρ c (3, 0) -∗ lft m ρ c (4, 0)
      -∗ (∀ b, ledger (F := F) c 18 13 -∗ gP c (gReg (slotN (2, 0) c) 0 8) fullShare.left (GF m ρ c) -∗ rgt m ρ c (5, 0) -∗ rgt m ρ c (6, 0)
          -∗ rgt m ρ c (7, 0) -∗ Q ⟨b, k0_pay13 (mx m ρ c) (iv m ρ c) (gRow m ρ c (slotN (2, 0) c))⟩)
      -∗ wpc c (onBufs (k0_part16 (F := F)) c v2 v5 v8 v13 v17 (mx m ρ c) (iv m ρ c)) Q) := by
  unfold onBufs wpc gRow
  rw [k0_part16_eq_skeleton]
  unfold k0_part16_skel
  simp only [Prog.lift, Prog.bind_op, Prog.bind_ret, Prog.pure_eq_ret]
  iintro #HR HL L0 L2 L3 L4 Hk
  iapply (step_recv m ρ K c 18 10 (5, 0) rfl (by decide) rfl rfl) $$ HR HL
  iintro HL P5
  iapply (step_recv m ρ K c 18 11 (6, 0) rfl (by decide) rfl rfl) $$ HR HL
  iintro HL P6
  iapply (step_recv m ρ K c 18 12 (7, 0) rfl (by decide) rfl rfl) $$ HR HL
  iintro HL P7
  ihave P5 := (halves m ρ c (5, 0)).1 $$ P5
  icases P5 with ⟨L5, G5⟩
  ihave P6 := (halves m ρ c (6, 0)).1 $$ P6
  icases P6 with ⟨L6, G6⟩
  ihave P7 := (halves m ρ c (7, 0)).1 $$ P7
  icases P7 with ⟨L7, G7⟩
  ihave HG := (slot_in m ρ c 0) $$ L0 L2 L3 L4 L5 L6 L7
  iapply (step_loadG c (slot_lt c 0) (Finset.Subset.refl _) (GF m ρ c) (off_sl c 0)) $$ HG
  iintro HG
  iapply wpc_ret
  iapply Hk $$ %_ HL HG G5 G6 G7

theorem part17 (c : Dev nD) (v2 v5 v8 v12 v13 v21 v545 : BitVec 32) (f2 fd) {Q} :
    recs m ρ K ⊢ iprop(ledger (F := F) c 18 13 -∗ cpTok (F := F) c 1 -∗ tP (F := F) c (gReg (cpSlot 1 c) 0 8) f2 -∗ oP (F := F) c (oReg (cpSlot 1 c)) fd
      -∗ (∀ r, ledger (F := F) c 18 14 -∗ cpRun (F := F) c 1 -∗ rcvPay m ρ c (0, 2) -∗ Q r)
      -∗ wpc c (onBufs (k0_part17 (F := F)) c v2 v5 v8 v12 v13 v21 v545 (k0_pay13 (mx m ρ c) (iv m ρ c) (gRow m ρ c (slotN (2, 0) c)))) Q) := by
  unfold onBufs wpc
  rw [k0_part17_eq_skeleton]
  unfold k0_part17_skel
  simp only [Prog.lift, Prog.bind_op, Prog.bind_ret, Prog.pure_eq_ret]
  iintro #HR HL Hc HT HO Hk
  iapply (step_fill m ρ K c 1 f2 fd (off_cs c 0) (row_other m ρ c 0) (off_cd c 0) (off_cf c 0) rfl rfl) $$ HR Hc HT HO
  iintro Hc
  iapply (step_recv m ρ K c 18 13 (0, 2) rfl (by decide) rfl rfl) $$ HR HL
  iintro HL HP
  iapply wpc_ret
  iapply Hk $$ %_ HL Hc HP

theorem part22 (c : Dev nD) (v5 v13 v17 v729 : BitVec 32) (f2 fd) {Q} :
    recs m ρ K ⊢ iprop(ledger (F := F) c 24 19 -∗ lft m ρ c (0, 1) -∗ lft m ρ c (2, 1) -∗ lft m ρ c (3, 1) -∗ lft m ρ c (4, 1) -∗ lft m ρ c (5, 1)
      -∗ lft m ρ c (6, 1) -∗ cpTok (F := F) c 2 -∗ tP (F := F) c (gReg (cpSlot 2 c) 0 8) f2 -∗ oP (F := F) c (oReg (cpSlot 2 c)) fd
      -∗ (∀ r, ledger (F := F) c 24 20 -∗ cpRun (F := F) c 2 -∗ gP c (gReg (slotN (2, 1) c) 0 8) fullShare.left (GF m ρ c) -∗ rgt m ρ c (7, 1) -∗ Q r)
      -∗ wpc c (onBufs (k0_part22 (F := F)) c v5 v13 v17 (mx m ρ c) (iv m ρ c) v729) Q) := by
  unfold onBufs wpc
  rw [k0_part22_eq_skeleton]
  unfold k0_part22_skel
  simp only [Prog.lift, Prog.bind_op, Prog.bind_ret, Prog.pure_eq_ret]
  iintro #HR HL L0 L2 L3 L4 L5 L6 Hc HT HO Hk
  iapply (step_recv m ρ K c 24 19 (7, 1) rfl (by decide) rfl rfl) $$ HR HL
  iintro HL P7
  ihave P7 := (halves m ρ c (7, 1)).1 $$ P7
  icases P7 with ⟨L7, G7⟩
  ihave HG := (slot_in m ρ c 1) $$ L0 L2 L3 L4 L5 L6 L7
  iapply (step_loadG c (slot_lt c 1) (Finset.Subset.refl _) (GF m ρ c) (off_sl c 1)) $$ HG
  iintro HG
  iapply (step_fill m ρ K c 2 f2 fd (off_cs c 1) (row_other m ρ c 1) (off_cd c 1) (off_cf c 1) rfl rfl) $$ HR Hc HT HO
  iintro Hc
  iapply wpc_ret
  iapply Hk $$ %_ HL Hc HG G7

theorem part24 (c : Dev nD) (v5 v17 v799 c0 : BitVec 32) (f2 fd) {Q} :
    recs m ρ K ⊢ iprop(ledger (F := F) c 24 23 -∗ lft m ρ c (0, 2) -∗ lft m ρ c (2, 2) -∗ lft m ρ c (3, 2) -∗ lft m ρ c (4, 2) -∗ lft m ρ c (5, 2)
      -∗ lft m ρ c (6, 2) -∗ cpTok (F := F) c 3 -∗ tP (F := F) c (gReg (cpSlot 3 c) 0 8) f2 -∗ oP (F := F) c (oReg (cpSlot 3 c)) fd
      -∗ (∀ r, ledger (F := F) c 24 24 -∗ cpRun (F := F) c 3 -∗ gP c (gReg (slotN (2, 2) c) 0 8) fullShare.left (GF m ρ c) -∗ rgt m ρ c (7, 2) -∗ Q r)
      -∗ wpc c (onBufs (k0_part24 (F := F)) c v5 v17 (mx m ρ c) (iv m ρ c) v799 c0) Q) := by
  unfold onBufs wpc
  rw [k0_part24_eq_skeleton]
  unfold k0_part24_skel
  simp only [Prog.lift, Prog.bind_op, Prog.bind_ret, Prog.pure_eq_ret]
  iintro #HR HL L0 L2 L3 L4 L5 L6 Hc HT HO Hk
  iapply (step_recv m ρ K c 24 23 (7, 2) rfl (by decide) rfl rfl) $$ HR HL
  iintro HL P7
  ihave P7 := (halves m ρ c (7, 2)).1 $$ P7
  icases P7 with ⟨L7, G7⟩
  ihave HG := (slot_in m ρ c 2) $$ L0 L2 L3 L4 L5 L6 L7
  iapply (step_loadG c (slot_lt c 2) (Finset.Subset.refl _) (GF m ρ c) (off_sl c 2)) $$ HG
  iintro HG
  iapply (step_fill m ρ K c 3 f2 fd (off_cs c 2) (row_other m ρ c 2) (off_cd c 2) (off_cf c 2) rfl rfl) $$ HR Hc HT HO
  iintro Hc
  iapply wpc_ret
  iapply Hk $$ %_ HL Hc HG G7

end Cert.Proof.Run
-- ==== Proof.Body.lean ====
/-
The whole body of the kernel on one device.
-/
module

public import proofs.«01_k».proof.Proof.PartsB

@[expose] public section

noncomputable section

namespace Cert.Proof.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Option KS → ℕ)

/-! ## Lists of copies -/

/-- One round of copies, listed. -/
def row (Φ : TX → sProp 𝕄) (h : Fin 3) : sProp 𝕄 :=
  iprop(Φ (0, h) ∗ Φ (1, h) ∗ Φ (2, h) ∗ Φ (3, h) ∗ Φ (4, h) ∗ Φ (5, h) ∗ Φ (6, h) ∗ Φ (7, h))

theorem all_rows (Φ : TX → sProp 𝕄) : bigSep Finset.univ Φ = iprop(row (F := F) Φ 0 ∗ row (F := F) Φ 1 ∗ row (F := F) Φ 2) := by
  have hr : ∀ h : Fin 3, (bigSep Finset.univ fun k : Fin 8 => Φ (k, h)) = row (F := F) Φ h := fun h => by
    rw [bigSep_univ_eq_bigSepL [0, 1, 2, 3, 4, 5, 6, 7] (by decide) (by decide)]
    rfl
  rw [bigSep_univ_prod, bigSep_univ_comm (fun (k : Fin 8) (h : Fin 3) => Φ (k, h)), bigSep_congr fun h _ => hr h,
    bigSep_univ_eq_bigSepL [0, 1, 2] (by decide) (by decide)]
  rfl

theorem order_all (Φ : TX → sProp 𝕄) : bigL (F := F) order Φ = bigSep Finset.univ Φ := bigL_univ order order_nodup mem_order Φ
theorem rorder_all (Φ : TX → sProp 𝕄) : bigL (F := F) rorder Φ = bigSep Finset.univ Φ := bigL_univ rorder (by decide) (by decide) Φ
theorem sorder_all (Φ : TX → sProp 𝕄) : bigL (F := F) sorder Φ = bigSep Finset.univ Φ := bigL_univ sorder (by decide) (by decide) Φ

/-- The ledger at the start. -/
theorem ledger_start (c : Dev nD) :
    ⊢ iprop((∃ W, owes (c : Thread nD τ) (owed c 0) W) -∗ bigSep Finset.univ (toSend (F := F) c) -∗ bigSep Finset.univ (dstAny (F := F) c)
      -∗ bigSep Finset.univ (toRecv (F := F) c) -∗ ledger (F := F) c 0 0) := by
  unfold ledger
  rw [List.drop_zero, List.drop_zero, List.take_zero, List.take_zero, order_all, rorder_all]
  iintro HO HS HD HR
  isplitl [HO]
  · iexact HO
  isplitl [HS HD]
  · unfold ready
    rw [bigSep_sep']
    isplitl [HS]
    · iexact HS
    iexact HD
  isplitr [HR]
  · unfold bigL
    iempintro
  isplitl [HR]
  · iexact HR
  unfold bigL
  iempintro

/-- The ledger when everything is sent and received. -/
theorem ledger_turn (c : Dev nD) : ledger (F := F) c 24 24 ⊢ iprop(ledger₂ m ρ c 0 ∗ bigSep Finset.univ (zeroR (F := F) c)) := by
  unfold ledger ledger₂
  rw [show order.take 24 = order from rfl, show rorder.take 24 = rorder from rfl, List.drop_zero, List.take_zero, order_all, rorder_all, sorder_all]
  rw [show owed c 24 = 0 from rfl]
  iintro ⟨HO, -, HS, -, HZ⟩
  isplitr [HZ]
  · isplitl [HO]
    · iexact HO
    isplitl [HS]
    · iexact HS
    unfold bigL
    iempintro
  iexact HZ

/-- The ledger at the end. -/
theorem ledger_end (c : Dev nD) : ledger₂ m ρ c 24 ⊢ iprop((∃ W, owes (c : Thread nD τ) (0 : CellTallies nD τ sig Unit) W)
    ∗ (bigSep Finset.univ fun t : TX => semVal (sndCell c t) 0) ∗ bigSep Finset.univ (sndPay m ρ c)) := by
  unfold ledger₂
  rw [show sorder.take 24 = sorder from rfl, sorder_all]
  unfold doneS
  rw [bigSep_sep']
  iintro ⟨HO, -, HS⟩
  isplitl [HO]
  · iexact HO
  iexact HS

/-! ## The buffers at the end -/

/-- What is kept of a slot while its shares are on their way. -/
def kept (c : Dev nD) (h : Fin 3) : sProp 𝕄 :=
  iprop(gP c (gReg (slotN (2, h) c) 0 8) fullShare.left (GF m ρ c) ∗ rgt m ρ c (2, h) ∗ rgt m ρ c (5, h) ∗ rgt m ρ c (6, h) ∗ rgt m ρ c (7, h))

theorem kept_back (c : Dev nD) (h : Fin 3) : iprop(kept m ρ c h ∗ nx m ρ c h
      ∗ (sndPay m ρ c (2, h) ∗ sndPay m ρ c (3, h) ∗ sndPay m ρ c (4, h) ∗ sndPay m ρ c (5, h) ∗ sndPay m ρ c (6, h) ∗ sndPay m ρ c (7, h)))
      ⊢ gP c (gReg (slotN (2, h) c) 0 8) fullShare (GF m ρ c) := by
  unfold kept
  iintro ⟨⟨HL, G⟩, Hn, Hs⟩
  iapply (slot_back m ρ c h)
  isplitl [HL]
  · iexact HL
  isplitl [Hn]
  · iexact Hn
  isplitl [Hs]
  · iexact Hs
  iexact G

/-- The gather and statistics buffers whole again. -/
theorem restore (c : Dev nD) :
    iprop((sndPay m ρ c (0, 0) -∗ gP c (gReg (yC c) 0 8) fullShare (GF m ρ c)) ∗ sP c Finset.univ fullShare.left (SF m ρ c) ∗ rgt m ρ c (1, 2)
      ∗ kept m ρ c 0 ∗ kept m ρ c 1 ∗ kept m ρ c 2 ∗ nx m ρ c 2 ∗ bigSep Finset.univ (sndPay m ρ c))
      ⊢ iprop(gP c Finset.univ fullShare (GF m ρ c) ∗ sP c Finset.univ fullShare (SF m ρ c)) := by
  rw [all_rows]
  unfold row
  rw [show sndPay m ρ c (0, 1) = nx m ρ c 0 from (nx_next m ρ c 0).symm, show sndPay m ρ c (0, 2) = nx m ρ c 1 from (nx_next m ρ c 1).symm,
    show sndPay m ρ c (1, 1) = rgt m ρ c (1, 0) from st_next m ρ c 0, show sndPay m ρ c (1, 2) = rgt m ρ c (1, 1) from st_next m ρ c 1,
    rgt_stats, rgt_stats, rgt_stats]
  have hs : sndPay m ρ c (1, 0) = sP c (sReg (yC c)) fullShare.right (SF m ρ c) := by
    unfold sndPay
    rw [part_s (t := (1, 0)) rfl, (slot_own c).2]
    rfl
  rw [hs]
  iintro ⟨Hw, HS, S2, K0, K1, K2, N2, ⟨A0, T, A2, A3, A4, A5, A6, A7⟩, ⟨N0, S0, B2, B3, B4, B5, B6, B7⟩, N1, S1, C2, C3, C4, C5, C6, C7⟩
  isplitr [HS S0 S1 S2 T]
  · iapply (cut_g c fullShare (GF m ρ c)).2
    isplitl [Hw A0]
    · iapply Hw
      iexact A0
    isplitl [K0 N0 A2 A3 A4 A5 A6 A7]
    · iapply (kept_back m ρ c 0)
      iframe
    isplitl [K1 N1 B2 B3 B4 B5 B6 B7]
    · iapply (kept_back m ρ c 1)
      iframe
    iapply (kept_back m ρ c 2)
    iframe
  iapply (pointsTo_share (PosShare.mem_left_op_right fullShare)).2
  isplitl [HS]
  · iexact HS
  iapply (cut_s c fullShare.right (SF m ρ c)).2
  iframe

/-- The staging buffer and the result, cut by the local copies. -/
theorem cut_t' (c : Dev nD) (f) : tP (F := F) c Finset.univ f ⊣⊢ iprop(tP c (gReg (yC c) 0 8) f ∗ tP c (gReg (cpSlot 1 c) 0 8) f
      ∗ tP c (gReg (cpSlot 2 c) 0 8) f ∗ tP c (gReg (cpSlot 3 c) 0 8) f) := by
  rw [show cpSlot 1 c = _ from slot_cp c 0, show cpSlot 2 c = _ from slot_cp c 1, show cpSlot 3 c = _ from slot_cp c 2]
  exact cut_t c f

theorem cut_o' (c : Dev nD) (f) : oP (F := F) c Finset.univ f ⊣⊢ iprop(oP c (oReg (yC c)) f ∗ oP c (oReg (cpSlot 1 c)) f
      ∗ oP c (oReg (cpSlot 2 c)) f ∗ oP c (oReg (cpSlot 3 c)) f) := by
  rw [show cpSlot 1 c = _ from slot_cp c 0, show cpSlot 2 c = _ from slot_cp c 1, show cpSlot 3 c = _ from slot_cp c 2]
  exact cut_o c f

theorem copies_in (c : Dev nD) : iprop(cpPay m ρ c 0 ∗ cpPay m ρ c 1 ∗ cpPay m ρ c 2 ∗ cpPay m ρ c 3)
    ⊢ iprop(oP c Finset.univ (OUT m ρ c) ∗ tP c Finset.univ (STF m ρ c)) := by
  unfold cpPay
  rw [cp_own]
  iintro ⟨⟨O0, T0⟩, ⟨O1, T1⟩, ⟨O2, T2⟩, O3, T3⟩
  isplitl [O0 O1 O2 O3]
  · iapply (cut_o' c (OUT m ρ c)).2
    iframe
  iapply (cut_t' c (STF m ρ c)).2
  iframe

/-! ## The body -/

/-- What the device holds of the protocol at the start. -/
def tokens (c : Dev nD) : sProp 𝕄 :=
  iprop(barToks (F := F) c ∗ bigSep Finset.univ (toSend (F := F) c) ∗ bigSep Finset.univ (toRecv (F := F) c)
    ∗ (cpTok (F := F) c 0 ∗ cpTok (F := F) c 1 ∗ cpTok (F := F) c 2 ∗ cpTok (F := F) c 3)
    ∗ atPos ER (barCell c) 0 ∅ 0 ∗ cred (tallyAt (barCell c) () 4))

/-- Every semaphore closed at zero. -/
def zeros (c : Dev nD) : sProp 𝕄 :=
  iprop(semVal (barCell c) 0 ∗ (semVal (cpCell c 0) 0 ∗ semVal (cpCell c 1) 0 ∗ semVal (cpCell c 2) 0 ∗ semVal (cpCell c 3) 0)
    ∗ (bigSep Finset.univ fun t : TX => semVal (sndCell c t) 0) ∗ bigSep Finset.univ (zeroR (F := F) c))

abbrev xP (c : Dev nD) : sProp 𝕄 := ((c : Thread nD τ).loc cc0_stg0_0) ↦{fullShare} xIn m ρ c
abbrev wP (c : Dev nD) : sProp 𝕄 := ((c : Thread nD τ).loc cc0_stg1_0) ↦{fullShare} wIn m ρ c

/-- What the device holds at the end. -/
def after (c : Dev nD) : sProp 𝕄 :=
  iprop((∃ W, owes (c : Thread nD τ) (0 : CellTallies nD τ sig Unit) W) ∗ xP m ρ c ∗ wP m ρ c
    ∗ (gP c Finset.univ fullShare (GF m ρ c) ∗ sP c Finset.univ fullShare (SF m ρ c)) ∗ (oP c Finset.univ (OUT m ρ c) ∗ tP c Finset.univ (STF m ρ c)) ∗ zeros (F := F) c)

set_option maxHeartbeats 4000000 in
theorem sound_body (c : Dev nD) {W} (f0 f1 f2 fd) {Q} :
    recs m ρ K ⊢ iprop(owes (c : Thread nD τ) (O₀ c) W -∗ tokens (F := F) c -∗ xP m ρ c -∗ wP m ρ c
      -∗ gP c Finset.univ fullShare f0 -∗ sP c Finset.univ fullShare f1 -∗ tP c Finset.univ f2 -∗ oP c Finset.univ fd
      -∗ (after m ρ c -∗ Q ⟨⟩) -∗ wpc c (onBufs (cc0_body (F := F))) Q) := by
  unfold onBufs wpc tokens
  rw [cc0_body_eq_skeleton]
  unfold cc0_body_skel
  iintro #HR HO ⟨HB, HS, HV, ⟨C0, C1, C2, C3⟩, Hat, Hc⟩ Hx Hw HG HST HT HOut Hk
  ihave HG := (cut_g c fullShare f0).1 $$ HG
  icases HG with ⟨G, G0, G1, G2⟩
  ihave HST := (cut_s c fullShare f1).1 $$ HST
  icases HST with ⟨S, S0, S1, S2⟩
  ihave HT := (cut_t' c f2).1 $$ HT
  icases HT with ⟨T, T1, T2, T3⟩
  ihave HOut := (cut_o' c fd).1 $$ HOut
  icases HOut with ⟨O, O1, O2, O3⟩
  ihave HP := (rooms c f0 f1) $$ [G0 G1 G2 S0 S1 S2]
  · iframe
  rw [wp_bind]
  iapply (part1 (F := F) c)
  iintro %v2 %v5 %v8 %v10 %v12 %v13 %v17 %v21 %v25 %v32
  dsimp only
  rw [wp_bind]
  iapply (part2 m ρ K c v2 v5 v8 v10 v12 v13 v17 v32 f0) $$ HR HO HB HP Hx Hw G
  iintro HO Hx Hw G
  dsimp only
  rw [wp_bind]
  iapply (part3 m ρ K c v2 v5 v8 v12 f0 f1 f2) $$ HR HO Hat Hc G T S
  iintro ⟨HO, ZB, HD⟩ G T S
  ihave HL := (ledger_start (F := F) c) $$ HO HS HD HV
  ihave G := (own_lend m ρ c) $$ G
  icases G with ⟨s00, Gw⟩
  ihave S := (own_stats m ρ c).1 $$ S
  icases S with ⟨SL, s10⟩
  rw [wp_bind]
  iapply (part4 m ρ K c v2 v5 v8 v12 v13 v21) $$ HR HL s10 s00
  iintro %r HL P
  obtain ⟨v132, c0⟩ := r
  dsimp only
  ihave P := (take_y m ρ c 0) $$ P
  icases P with ⟨L00, n0, ⟨s20, s40⟩, s30, s50⟩
  rw [wp_bind]
  iapply (part5 m ρ K c v2 v5 v8 v13 v17 v132 c0) $$ HR HL s30 s20
  iintro %_ HL
  rw [wp_bind]
  iapply (part6 m ρ K c v2 v5 v8 v12 v17) $$ HR HL s40 s50
  iintro %v203 HL P
  ihave P := (show rcvPay m ρ c (1, 0) ⊢ iprop(lft m ρ c (1, 0) ∗ sndPay m ρ c (1, 1)) from take_st m ρ c 0) $$ P
  icases P with ⟨L10, s11⟩
  ihave s01 := (show nx m ρ c 0 ⊢ sndPay m ρ c (0, 1) from Entails.of_eq (nx_next m ρ c 0)) $$ n0
  rw [wp_bind]
  iapply (part7 m ρ K c v2 v5 v8 v12 v17 v203) $$ HR HL s11 s01
  iintro %_ HL
  rw [wp_bind]
  iapply (part8 m ρ K c v2 v5 v8 v13 v25) $$ HR HL
  iintro %r HL L40 P
  obtain ⟨v272, c4⟩ := r
  dsimp only
  ihave P := (take_x m ρ c 0) $$ P
  icases P with ⟨L30, s70⟩
  rw [wp_bind]
  iapply (part9 m ρ K c v2 v5 v8 v12 v13 v17 v21 v272 c4) $$ HR HL s70
  iintro %_ HL P
  ihave P := (take_y m ρ c 1) $$ P
  icases P with ⟨L01, n1, ⟨s21, s41⟩, s31, s51⟩
  rw [wp_bind]
  iapply (part10 m ρ K c v2 v5 v8 v13 v17) $$ HR HL s31 s21 s41
  iintro %v344 HL
  rw [wp_bind]
  iapply (part11 m ρ K c v2 v5 v8 v12 v17 v344) $$ HR HL s51
  iintro %_ HL P
  ihave P := (show rcvPay m ρ c (1, 1) ⊢ iprop(lft m ρ c (1, 1) ∗ sndPay m ρ c (1, 2)) from take_st m ρ c 1) $$ P
  icases P with ⟨L11, s12⟩
  ihave s02 := (show nx m ρ c 1 ⊢ sndPay m ρ c (0, 2) from Entails.of_eq (nx_next m ρ c 1)) $$ n1
  rw [wp_bind]
  iapply (part12 m ρ K c v2 v5 v8 v12 v17) $$ HR HL s12 s02
  iintro %c16 HL P
  ihave P := (take_z m ρ c 1) $$ P
  icases P with ⟨L41, s61⟩
  rw [wp_bind]
  iapply (part13 m ρ K c v2 v5 v8 v13 v17 v25 c16) $$ HR HL s61
  iintro %_ HL P
  ihave P := (take_x m ρ c 1) $$ P
  icases P with ⟨L31, s71⟩
  rw [wp_bind]
  iapply (part14 m ρ K c v2 v5 v8 v12) $$ HR HL s71 SL L10 L11 T
  iintro HL SL r12 T
  dsimp only
  rw [wp_bind]
  iapply (part15 m ρ K c v2 v5 v8 v13 v17 fd) $$ HR HL C0 T O
  iintro %_ HL R0 P
  ihave P := (halves m ρ c (2, 0)).1 $$ P
  icases P with ⟨L20, r20⟩
  rw [wp_bind]
  iapply (part16 m ρ K c v2 v5 v8 v13 v17) $$ HR HL L00 L20 L30 L40
  iintro %v545 HL K0 r50 r60 r70
  dsimp only
  rw [wp_bind]
  iapply (part17 m ρ K c v2 v5 v8 v12 v13 v21 v545 f2 fd) $$ HR HL C1 T1 O1
  iintro %_ HL R1 P
  ihave P := (take_y m ρ c 2) $$ P
  icases P with ⟨L02, n2, ⟨s22, s42⟩, s32, s52⟩
  rw [wp_bind]
  iapply (part18 m ρ K c v2 v5 v8 v13 v17) $$ HR HL s32 s22 s42
  iintro %v624 HL
  rw [wp_bind]
  iapply (part19 m ρ K c v2 v5 v8 v13 v17 v624) $$ HR HL s52
  iintro %_ HL P
  ihave P := (take_z m ρ c 2) $$ P
  icases P with ⟨L42, s62⟩
  rw [wp_bind]
  iapply (part20 m ρ K c v2 v5 v8 v13 v17 v25) $$ HR HL s62
  iintro %r HL L32
  obtain ⟨v694, c4'⟩ := r
  dsimp only
  rw [wp_bind]
  iapply (part21 m ρ K c v2 v5 v8 v13 v17 v694 c4') $$ HR HL
  iintro %v729 HL P2 P5 P6
  ihave P2 := (halves m ρ c (2, 1)).1 $$ P2
  icases P2 with ⟨L21, r21⟩
  ihave P5 := (halves m ρ c (5, 1)).1 $$ P5
  icases P5 with ⟨L51, r51⟩
  ihave P6 := (halves m ρ c (6, 1)).1 $$ P6
  icases P6 with ⟨L61, r61⟩
  rw [wp_bind]
  iapply (part22 m ρ K c v5 v13 v17 v729 f2 fd) $$ HR HL L01 L21 L31 L41 L51 L61 C2 T2 O2
  iintro %r HL R2 K1 r71
  obtain ⟨v764, v765⟩ := r
  dsimp only
  rw [wp_bind]
  iapply (part23 m ρ K c v2 v5 v8 v13 v17 v764 v765) $$ HR HL
  iintro %r HL P2 P5 P6
  obtain ⟨v799, c0'⟩ := r
  dsimp only
  ihave P2 := (halves m ρ c (2, 2)).1 $$ P2
  icases P2 with ⟨L22, r22⟩
  ihave P5 := (halves m ρ c (5, 2)).1 $$ P5
  icases P5 with ⟨L52, r52⟩
  ihave P6 := (halves m ρ c (6, 2)).1 $$ P6
  icases P6 with ⟨L62, r62⟩
  rw [wp_bind]
  iapply (part24 m ρ K c v5 v17 v799 c0' f2 fd) $$ HR HL L02 L22 L32 L42 L52 L62 C3 T3 O3
  iintro %_ HL R3 K2 r72
  ihave HL := (ledger_turn m ρ c) $$ HL
  icases HL with ⟨HL, ZR⟩
  rw [wp_bind]
  iapply (part25 m ρ K c) $$ HR HL
  iintro %_ HL
  rw [wp_bind]
  iapply (part26 m ρ K c) $$ HR HL
  iintro %_ HL
  rw [wp_bind]
  iapply (part27 m ρ K c) $$ HR HL
  iintro %_ HL
  rw [wp_bind]
  iapply (part28 m ρ K c) $$ HR HL
  iintro %_ HL
  rw [wp_bind]
  iapply (part29 m ρ K c) $$ HR HL R0
  iintro %_ HL Z0 Q0
  simp only [Prog.lift, Prog.bind_op, Prog.bind_ret, Prog.pure_eq_ret]
  iapply (step_cpWait m ρ K c 1 rfl 24 rfl) $$ HR HL R1
  iintro HL Z1 Q1
  iapply (step_cpWait m ρ K c 2 rfl 24 rfl) $$ HR HL R2
  iintro HL Z2 Q2
  iapply (step_cpWait m ρ K c 3 rfl 24 rfl) $$ HR HL R3
  iintro HL Z3 Q3
  rw [wp_ret]
  imodintro
  iapply Hk
  ihave HL := (ledger_end m ρ c) $$ HL
  icases HL with ⟨HO, ZS, HP⟩
  unfold after zeros
  isplitl [HO]
  · iexact HO
  isplitl [Hx]
  · iexact Hx
  isplitl [Hw]
  · iexact Hw
  isplitl [Gw SL r12 K0 r20 r50 r60 r70 K1 r21 r51 r61 r71 K2 r22 r52 r62 r72 n2 HP]
  · iapply (restore m ρ c)
    unfold kept
    iframe
  isplitl [Q0 Q1 Q2 Q3]
  · iapply (copies_in m ρ c)
    iframe
  iframe

end Cert.Proof.Run
-- ==== Proof.Launch.lean ====
/-
The launch of the kernel on all devices, and what its run leaves.
-/
module

public import proofs.«01_k».proof.Proof.Body
public import Idealize.ShloMosaic.Lib.Pipeline.CollectiveSegs

@[expose] public section

noncomputable section

namespace Cert.Proof.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Option KS → ℕ)

/-! ## Sums over the semaphores -/

theorem sep_opt {A : Type} [Fintype A] [DecidableEq A] (Φ : Option A → sProp 𝕄) :
    bigSep Finset.univ Φ = iprop(Φ none ∗ bigSep Finset.univ fun a => Φ (some a)) := by
  rw [bigSep_univ_at Φ none]
  refine congrArg (fun X : sProp 𝕄 => iprop(Φ none ∗ X)) ?_
  have : Finset.univ.erase (none : Option A) = Finset.univ.map Function.Embedding.some := by
    ext o
    cases o <;> simp
  rw [this, bigSep_map]
  rfl

theorem sep_own (Φ : KS → sProp 𝕄) : bigSep Finset.univ Φ
    = iprop((Φ (.inl 0) ∗ Φ (.inl 1) ∗ Φ (.inl 2) ∗ Φ (.inl 3)) ∗ (bigSep Finset.univ fun t : TX => Φ (.inr (t, false))) ∗ bigSep Finset.univ fun t : TX => Φ (.inr (t, true))) := by
  have hb : ∀ t : TX, (bigSep Finset.univ fun b : Bool => Φ (.inr (t, b))) = iprop(Φ (.inr (t, false)) ∗ Φ (.inr (t, true))) := fun t => by
    rw [bigSep_univ_eq_bigSepL [false, true] (by decide) (by decide)]
    rfl
  rw [bigSep_univ_sum, bigSep_univ_prod (fun x : TX × Bool => Φ (.inr x)), bigSep_congr fun t _ => hb t, bigSep_sep',
    bigSep_univ_eq_bigSepL [0, 1, 2, 3] (by decide) (by decide)]
  rfl

/-- Where a copy of a kind goes, as a permutation of the devices. -/
def dstE (k : Fin 8) : Dev nD ≃ Dev nD := ⟨dst k, frm k, frm_dst k, dst_frm k⟩
def rightE : Dev nD ≃ Dev nD := ⟨right, left, left_right, right_left⟩
def pxE : Dev nD ≃ Dev nD := ⟨px, px, px_px, px_px⟩
def pzE : Dev nD ≃ Dev nD := ⟨pz, pz, pz_pz, pz_pz⟩

/-! ## The pipeline's data -/

/-- The result's buffer at the start. -/
abbrev outAny (c : Dev nD) : sProp 𝕄 := iprop(∃ f, oP (F := F) c Finset.univ f)

def start (c : Dev nD) : sProp 𝕄 := iprop((∃ K, recs m ρ K ∗ tokens (F := F) c) ∗ outAny (F := F) c)

def scratch (c : Dev nD) : sProp 𝕄 :=
  iprop((∃ f, gP (F := F) c Finset.univ fullShare f) ∗ (∃ f, sP (F := F) c Finset.univ fullShare f) ∗ (∃ f, tP (F := F) c Finset.univ f))

def Φ₀ (c : Dev nD) : sProp 𝕄 := iprop(start m ρ c ∗ scratch (F := F) c)
def Φ₁ (c : Dev nD) : sProp 𝕄 := iprop(scratch (F := F) c ∗ zeros (F := F) c ∗ oP c Finset.univ (OUT m ρ c))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xIn m ρ c
    | ⟨1, _⟩ => wIn m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

theorem whole_owns (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns
  simp only [Memref.view_whole, View.read_whole, View.set_whole]

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre (c : Dev nD) : sProp 𝕄 :=
  iprop(Φ₀ m ρ c ∗ (dats m ρ 0 c).owesAt () t0_0.castSucc
    ∗ (∃ d, stg c cc0_stg0_0 ((dats m ρ 0 c).before (0 : Fin 2) t0_0 d)) ∗ (∃ d, stg c cc0_stg1_0 ((dats m ρ 0 c).before (1 : Fin 2) t0_0 d)))
def bodyPost (c : Dev nD) : sProp 𝕄 :=
  iprop(Φ₁ m ρ c ∗ (dats m ρ 0 c).owesAt () t0_0.succ ∗ stg c cc0_stg0_0 (xIn m ρ c) ∗ stg c cc0_stg1_0 (wIn m ρ c))

theorem body_at (c : Dev nD) : bodyPre m ρ c ⊢ wpc c (onBufs (cc0_body (F := F))) (fun _ => bodyPost m ρ c) := by
  unfold bodyPre Φ₀ start scratch Dat.owesAt Pipeline.owesWithin
  rw [show (dats m ρ 0 c).owed t0_0.castSucc = O₀ c from rfl]
  iintro ⟨⟨⟨⟨%K, #HR, Ht⟩, ⟨%fd, HO⟩⟩, ⟨%f0, HG⟩, ⟨%f1, HS⟩, ⟨%f2, HT⟩⟩, ⟨%W, %hW, Ho⟩, ⟨%d0, %g0, %h0, Hx⟩, ⟨%d1, %g1, %h1, Hw⟩⟩
  have hx : g0 = xIn m ρ c := by rw [h0]; unfold Dat.before; rw [if_pos (show (cfg0.win (0 : Fin 2)).fetch t0_0 = true from rfl)]; rfl
  have hw : g1 = wIn m ρ c := by rw [h1]; unfold Dat.before; rw [if_pos (show (cfg0.win (1 : Fin 2)).fetch t0_0 = true from rfl)]; rfl
  subst hx hw
  iapply (sound_body m ρ K c f0 f1 f2 fd) $$ HR Ho Ht Hx Hw HG HS HT HO
  unfold after
  iintro ⟨⟨%W', Ho⟩, Hx, Hw, ⟨HG, HS⟩, ⟨HO, HT⟩, HZ⟩
  unfold bodyPost Φ₁ scratch Dat.owesAt Pipeline.owesWithin
  rw [show (dats m ρ 0 c).owed t0_0.succ = 0 from rfl]
  isplitl [HG HS HT HZ HO]
  · isplitl [HG HS HT]
    · isplitl [HG]
      · iexists _; iexact HG
      isplitl [HS]
      · iexists _; iexact HS
      iexists _; iexact HT
    isplitl [HZ] <;> iassumption
  isplitl [Ho]
  · iexists W'
    isplitr
    · ipureintro; exact fun _ _ => Or.inl trivial
    iexact Ho
  isplitl [Hx]
  · iexists _
    isplitr
    · ipureintro; rfl
    iexact Hx
  iexists _
  isplitr
  · ipureintro; rfl
  iexact Hw

set_option maxRecDepth 40000 in
theorem body_obligation (c : Dev nD) : BodyObligation (dats (F := F) m ρ 0 c) (defs₀ (F := F)) 𝒱₀ () Set.univ := fun t => by
  rw [fin_N0 t]
  rw [bigSep_W0, bigSep_W0]
  simp only [whole_owns]
  show bodyPre m ρ c ⊢ wpc c (onBufs (cc0_body (F := F))) (fun _ => bodyPost m ρ c)
  exact body_at m ρ c

/-! ## The ghost state dealt out -/

theorem ownSemFacts : Pipeline.OwnSemFacts cfg0.spec osem := by decide +kernel

theorem cell_injective : Function.Injective (fun ck : Dev nD × Option KS => cell ck.1 ck.2) :=
  fun a b h => Prod.ext (cell_inj h).1 (cell_inj h).2
def allCells : Finset (GSem nD τ sig) := Finset.univ.map ⟨_, cell_injective⟩

/-- The duties of device `c`'s cells: the barrier's four, and one for each other. -/
abbrev tokAt (x : Dev nD × (Fin 4 ⊕ KS)) : GSem nD τ sig × ℕ × Fin 4 := match x.2 with
  | .inl d => (barCell x.1, 0, d)
  | .inr k => (cell x.1 (some k), 0, 0)
theorem tokAt_injective : Function.Injective tokAt := by
  rintro ⟨c, d | k⟩ ⟨c', d' | k'⟩ h
  · have h1 := (cell_inj (congrArg Prod.fst h)).1
    have h2 : d = d' := congrArg (fun x : GSem nD τ sig × ℕ × Fin 4 => x.2.2) h
    simp only at h1
    rw [h1, h2]
  · exact absurd (cell_inj (congrArg Prod.fst h)).2 (by simp)
  · exact absurd (cell_inj (congrArg Prod.fst h)).2 (by simp)
  · have h1 := cell_inj (congrArg Prod.fst h)
    have h2 := Option.some.inj h1.2
    have h1 := h1.1
    simp only at h1 h2
    rw [h1, h2]
def allToks : Finset (GSem nD τ sig × ℕ × Fin 4) := Finset.univ.map ⟨tokAt, tokAt_injective⟩

def u₀ : UU := (initOf (Pipeline.cells cfgs cellOf_inj) (Pipeline.launchToks cfgs cellOf_inj), initOf allCells allToks)

/-- The rights to pay at device `c`'s cells. -/
def toks (c : Dev nD) : sProp 𝕄 :=
  iprop((dutyTok ER (barCell c) 0 (0 : Fin 4) ∗ dutyTok ER (barCell c) 0 (1 : Fin 4) ∗ dutyTok ER (barCell c) 0 (2 : Fin 4) ∗ dutyTok ER (barCell c) 0 (3 : Fin 4))
    ∗ bigSep Finset.univ fun k : KS => dutyTok ER (cell c (some k)) 0 (0 : Fin 4))
/-- The places at device `c`'s cells. -/
def places (c : Dev nD) : sProp 𝕄 := bigSep Finset.univ fun k : Option KS => atPos ER (cell c k) 0 ∅ 0

def G (c : Dev nD) : sProp 𝕄 :=
  iprop((bigSep Finset.univ fun k : Option KS => roundState ER (rd m ρ) (cell c k) 0)
    ∗ (places (F := F) c ∗ bigSep Finset.univ fun k : Option KS => reached ER (cell c k) 0) ∗ toks (F := F) c)

theorem fund : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Option KS => Φ (cell c k) := by
    unfold allCells
    rw [bigSep_map, bigSep_univ_prod]
    rfl
  have hT : bigSep allToks (fun x => (dutyTok ER x.1 x.2.1 x.2.2 : sProp 𝕄)) = bigSep Finset.univ fun c : Dev nD => toks c := by
    unfold allToks
    rw [bigSep_map, bigSep_univ_prod]
    refine bigSep_congr fun c _ => ?_
    unfold toks
    rw [bigSep_univ_sum, bigSep_univ_eq_bigSepL [0, 1, 2, 3] (by decide) (by decide)]
    rfl
  iintro HX
  imod (Rounds.fund ER (rd m ρ) allCells allToks) $$ HX with ⟨Hs, Hr, Ha, Ht⟩
  imodintro
  ihave Hs := (Entails.of_eq (hX fun g => roundState ER (rd m ρ) g 0)) $$ Hs
  ihave Ha := (Entails.of_eq (hX fun g => atPos ER g 0 ∅ 0)) $$ Ha
  ihave Hr := (Entails.of_eq (hX fun g => reached ER g 0)) $$ Hr
  ihave Ht := (Entails.of_eq hT) $$ Ht
  unfold G places
  simp only [bigSep_sep']
  isplitl [Hs]; · iexact Hs
  isplitl [Ha Hr]
  · isplitl [Ha] <;> iassumption
  iexact Ht

theorem bar_sems (c : Dev nD) : (unscopedSems0 c : sProp 𝕄) = semVal (barCell c) 0 := by
  unfold unscopedSems0
  rw [bigSep_eq_bigSepL_of_eq [SemLoc.reg barS] (by decide) (by decide)]
  rfl

theorem own_sems (c : Dev nD) : (Pipeline.ownSems0 (Ix := Unit) (Name := ℕ) (U := UU) (Lvl := ℕ) (Val := Elt F) (τ := τ) osem c : sProp 𝕄)
    = bigSep Finset.univ fun k : KS => semVal (cell c (some k)) 0 := rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (rd m ρ) κ (cell c k)))
          ∗ (places (F := F) c ∗ bigSep Finset.univ fun k : Option KS => reached ER (cell c k) 0) ∗ toks (F := F) c) := by
  have hall : iprop((bigSep Finset.univ fun k : Option KS => semVal (cell c k) 0) ∗ bigSep Finset.univ fun k : Option KS => roundState ER (rd m ρ) (cell c k) 0)
      ⊢ (|={Set.univ}=> bigSep Finset.univ fun k => iprop(∃ κ : ℕ, cellInv ER (rd m ρ) κ (cell c k)) : sProp 𝕄) := by
    rw [← bigSep_sep']
    exact (bigSep_mono fun k _ => (Rounds.body_intro ER (rd m ρ) (cell c k)).trans inv_alloc).trans (bigSep_fupd _ _)
  unfold G
  rw [own_sems, bar_sems]
  iintro ⟨Ho, Hb, Hs, Ha, Ht⟩
  imod hall $$ [Ho Hb Hs] with Hi
  · isplitr [Hs]
    · iapply (Entails.of_eq (sep_opt fun k => semVal (cell c k) 0).symm)
      isplitl [Hb] <;> iassumption
    iexact Hs
  imodintro
  isplitl [Hi]; · iexact Hi
  isplitl [Ha] <;> iassumption

/-- What stays with device `c`: its places, and the rights to pay where it pays. -/
def linear (c : Dev nD) : sProp 𝕄 :=
  iprop(places (F := F) c ∗ barToks (F := F) c
    ∗ (dutyTok ER (cpCell c 0) 0 (0 : Fin 4) ∗ dutyTok ER (cpCell c 1) 0 (0 : Fin 4) ∗ dutyTok ER (cpCell c 2) 0 (0 : Fin 4) ∗ dutyTok ER (cpCell c 3) 0 (0 : Fin 4))
    ∗ (bigSep Finset.univ fun t : TX => dutyTok ER (sndCell c t) 0 (0 : Fin 4)) ∗ bigSep Finset.univ fun t : TX => dutyTok ER (rcvCell (dst t.1 c) t) 0 (0 : Fin 4))

/-- The rights dealt from the cells to the devices that pay there. -/
theorem toks_around : iprop((bigSep Finset.univ (places (F := F))) ∗ bigSep Finset.univ (toks (F := F))) ⊢ bigSep Finset.univ (linear (F := F)) := by
  have hr : (bigSep Finset.univ fun c : Dev nD => bigSep Finset.univ fun t : TX => (dutyTok ER (rcvCell c t) 0 (0 : Fin 4) : sProp 𝕄))
      = bigSep Finset.univ fun c : Dev nD => bigSep Finset.univ fun t : TX => dutyTok ER (rcvCell (dst t.1 c) t) 0 (0 : Fin 4) := by
    rw [bigSep_univ_comm, bigSep_univ_comm (fun (c : Dev nD) (t : TX) => (dutyTok ER (rcvCell (dst t.1 c) t) 0 (0 : Fin 4) : sProp 𝕄))]
    exact bigSep_congr fun t _ => bigSep_univ_equiv (dstE t.1) fun c : Dev nD => (dutyTok ER (rcvCell c t) 0 (0 : Fin 4) : sProp 𝕄)
  have h0 := bigSep_univ_equiv rightE.symm fun c : Dev nD => (dutyTok ER (barCell c) 0 (0 : Fin 4) : sProp 𝕄)
  have h1 := bigSep_univ_equiv rightE fun c : Dev nD => (dutyTok ER (barCell c) 0 (1 : Fin 4) : sProp 𝕄)
  have h2 := bigSep_univ_equiv pxE fun c : Dev nD => (dutyTok ER (barCell c) 0 (2 : Fin 4) : sProp 𝕄)
  have h3 := bigSep_univ_equiv pzE fun c : Dev nD => (dutyTok ER (barCell c) 0 (3 : Fin 4) : sProp 𝕄)
  unfold toks linear barToks
  simp only [sep_own, bigSep_sep']
  rw [hr, h0, h1, h2, h3]
  iintro ⟨Hp, ⟨H0, H1, H2, H3⟩, Hc, Hs, Hr⟩
  isplitl [Hp]; · iexact Hp
  isplitl [H0 H1 H2 H3]
  · isplitl [H0]; · iexact H0
    isplitl [H1]; · iexact H1
    isplitl [H2]; · iexact H2
    iexact H3
  isplitl [Hc]; · iexact Hc
  isplitl [Hs]; · iexact Hs
  iexact Hr

/-- What every device knows. -/
def known (K : Dev nD × Option KS → ℕ) : sProp 𝕄 :=
  iprop((bigSep Finset.univ fun ck : Dev nD × Option KS => cellInv ER (rd m ρ) (K ck) (cell ck.1 ck.2))
    ∗ bigSep Finset.univ fun ck : Dev nD × Option KS => reached ER (cell ck.1 ck.2) 0)
instance known_persistent (K : Dev nD × Option KS → ℕ) : BI.Persistent (known m ρ K) := by unfold known; infer_instance

def G' (c : Dev nD) : sProp 𝕄 := iprop(∃ K, known m ρ K ∗ linear (F := F) c)

theorem regroup :
    (bigSep Finset.univ fun c : Dev nD => iprop((bigSep Finset.univ fun k : Option KS => iprop(∃ κ : ℕ, cellInv ER (rd m ρ) κ (cell c k)))
          ∗ (places (F := F) c ∗ bigSep Finset.univ fun k : Option KS => reached ER (cell c k) 0) ∗ toks (F := F) c) : sProp 𝕄)
      ⊢ bigSep Finset.univ (G' m ρ) := by
  have hk (K : Dev nD × Option KS → ℕ) : iprop(known m ρ K ∗ bigSep Finset.univ (linear (F := F))) ⊢ bigSep Finset.univ (G' m ρ) := by
    refine (sep_mono_left (BI.bigSep_of_persistent (Finset.univ : Finset (Dev nD)) (known m ρ K))).trans ?_
    rw [← bigSep_sep']
    refine bigSep_mono fun c _ => ?_
    unfold G'
    show iprop(known m ρ K ∗ linear c) ⊢ iprop(∃ K, known m ρ K ∗ linear c)
    iintro H
    iexists K
    iexact H
  rw [bigSep_sep', bigSep_sep', bigSep_sep', ← bigSep_univ_prod (fun ck : Dev nD × Option KS => iprop(∃ κ : ℕ, cellInv ER (rd m ρ) κ (cell ck.1 ck.2))),
    ← bigSep_univ_prod (fun ck : Dev nD × Option KS => (reached ER (cell ck.1 ck.2) 0 : sProp 𝕄))]
  iintro ⟨HI, ⟨Ha, Hr⟩, Ht⟩
  ihave HK := (BI.bigSep_exists_pi Finset.univ (fun (ck : Dev nD × Option KS) (κ : ℕ) => (cellInv ER (rd m ρ) κ (cell ck.1 ck.2) : sProp 𝕄))) $$ HI
  icases HK with ⟨%K, HI⟩
  iapply (hk K)
  isplitl [HI Hr]
  · unfold known
    isplitl [HI] <;> iassumption
  iapply (toks_around (F := F))
  isplitl [Ha] <;> iassumption

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit at the start -/

theorem owesFor_bar (d c : Dev nD) (l : List TX) : owesFor d l (barCell c) () = 0 := by
  by_contra h
  obtain ⟨t, _, e⟩ := owesFor_pos (Nat.pos_of_ne_zero h)
  exact absurd (cell_inj e).2 (by simp)

theorem owesFor_rcv (d c : Dev nD) (t : TX) : ∀ l : List TX, l.Nodup →
    owesFor d l (rcvCell c t) () = if t ∈ l ∧ dst t.1 d = c then NN t.1 else 0
  | [], _ => by simp [owesFor]
  | t' :: l, hl => by
    rw [List.nodup_cons] at hl
    unfold owesFor
    rw [Pi.add_apply, Finsupp.add_apply, tallyAt_apply, owesFor_rcv d c t l hl.2]
    by_cases ht : t = t'
    · subst ht
      by_cases hc : dst t.1 d = c
      · subst hc
        simp [hl.1]
      · have : ¬ (rcvCell c t = rcvCell (dst t.1 d) t ∧ (() : Unit) = ()) := fun h => hc (cell_inj h.1).1.symm
        rw [if_neg this]
        simp [hc]
    · have : ¬ (rcvCell c t = rcvCell (dst t'.1 d) t' ∧ (() : Unit) = ()) := fun h => ht (by
        have := (cell_inj h.1).2
        simpa using this)
      rw [if_neg this]
      simp [ht]

/-- One device in all sends to `c`. -/
theorem sum_one (e : Dev nD ≃ Dev nD) (c : Dev nD) (n : ℕ) : (∑ d : Dev nD, if e d = c then n else 0) = n := by
  rw [Equiv.sum_comp e fun x => if x = c then n else 0, Finset.sum_ite_eq', if_pos (Finset.mem_univ _)]

theorem tally_bar (d c : Dev nD) : (tallyAt (barCell d) () 1 : CellTallies nD τ sig Unit) (barCell c) () = if d = c then 1 else 0 := by
  rw [tallyAt_apply]
  by_cases h : d = c
  · subst h; simp
  · have : ¬ (barCell c = barCell d ∧ (() : Unit) = ()) := fun h' => h (cell_inj h'.1).1.symm
    rw [if_neg this, if_neg h]

theorem launch_bar (c : Dev nD) :
    tallyOn (barCell c) (launchCredit (Pipeline.owing O₀) 0 (barCell c)) = (tallyAt (barCell c) () 4 : CellTallies nD τ sig Unit) := by
  have ho : ∀ d : Dev nD, O₀ d (barCell c) () = (if pzE d = c then 1 else 0) + (if pxE d = c then 1 else 0) + (if rightE d = c then 1 else 0)
      + (if rightE.symm d = c then 1 else 0) := fun d => by
    unfold O₀ O₁ O₂ O₃ owed
    rw [Pi.add_apply, Finsupp.add_apply, Pi.add_apply, Finsupp.add_apply, Pi.add_apply, Finsupp.add_apply, Pi.add_apply, Finsupp.add_apply,
      tally_bar, tally_bar, tally_bar, tally_bar, owesFor_bar, Nat.zero_add]
    rfl
  unfold tallyAt
  refine congrArg _ (Finsupp.ext fun u => ?_)
  cases u
  rw [Pipeline.launchCredit_owing, Finsupp.single_eq_same, Finset.sum_congr rfl fun d _ => ho d, Finset.sum_add_distrib, Finset.sum_add_distrib,
    Finset.sum_add_distrib, sum_one, sum_one, sum_one, sum_one]

theorem launch_rcv (c : Dev nD) (t : TX) :
    tallyOn (rcvCell c t) (launchCredit (Pipeline.owing O₀) 0 (rcvCell c t)) = (tallyAt (rcvCell c t) () (NN t.1) : CellTallies nD τ sig Unit) := by
  have hb : ∀ d : Dev nD, (tallyAt (barCell d) () 1 : CellTallies nD τ sig Unit) (rcvCell c t) () = 0 := fun d => by
    rw [tallyAt_apply, if_neg]
    exact fun h => absurd (cell_inj h.1).2 (by simp)
  have ho : ∀ d : Dev nD, O₀ d (rcvCell c t) () = if dstE t.1 d = c then NN t.1 else 0 := fun d => by
    unfold O₀ O₁ O₂ O₃ owed
    rw [Pi.add_apply, Finsupp.add_apply, Pi.add_apply, Finsupp.add_apply, Pi.add_apply, Finsupp.add_apply, Pi.add_apply, Finsupp.add_apply,
      hb, hb, hb, hb]
    simp only [Nat.add_zero]
    rw [List.drop_zero, owesFor_rcv d c t order order_nodup]
    simp only [mem_order, true_and]
    rfl
  unfold tallyAt
  refine congrArg _ (Finsupp.ext fun u => ?_)
  cases u
  rw [Pipeline.launchCredit_owing, Finsupp.single_eq_same, Finset.sum_congr rfl fun d _ => ho d, sum_one]

theorem creds (c : Dev nD) : (Pipeline.launchCred O₀ c : sProp 𝕄)
    ⊢ iprop(cred (tallyAt (barCell c) () 4) ∗ bigSep Finset.univ fun t : TX => cred (tallyAt (rcvCell c t) () (NN t.1))) := by
  have hf : Function.Injective fun o : Option TX => csem (o.map fun t => .inr (t, true)) := fun a b h => by
    have := csem_inj h
    cases a <;> cases b <;> simp_all
  unfold Pipeline.launchCred
  have hs : (Finset.univ : Finset (SemLoc sig)) = (Finset.univ.map ⟨_, hf⟩) ∪ (Finset.univ \ Finset.univ.map ⟨_, hf⟩) := by
    rw [Finset.union_sdiff_of_subset (Finset.subset_univ _)]
  rw [hs, bigSep_union Finset.disjoint_sdiff, bigSep_map, sep_opt]
  have h1 : cred (tallyOn (barCell c) (launchCredit (Pipeline.owing O₀) 0 (barCell c))) ⊢ (cred (tallyAt (barCell c) () 4) : sProp 𝕄) := by rw [launch_bar]
  have h2 : (bigSep Finset.univ fun t : TX => cred (tallyOn (rcvCell c t) (launchCredit (Pipeline.owing O₀) 0 (rcvCell c t))))
      ⊢ (bigSep Finset.univ fun t : TX => cred (tallyAt (rcvCell c t) () (NN t.1)) : sProp 𝕄) := bigSep_mono fun t _ => by rw [launch_rcv]; exact BI.Entails.refl _
  refine (show iprop((cred (tallyOn (barCell c) (launchCredit (Pipeline.owing O₀) 0 (barCell c)))
      ∗ bigSep Finset.univ fun t : TX => cred (tallyOn (rcvCell c t) (launchCredit (Pipeline.owing O₀) 0 (rcvCell c t)))) ∗ _) ⊢ _ from ?_)
  iintro ⟨⟨H1, H2⟩, -⟩
  isplitl [H1]
  · iapply h1
    iexact H1
  iapply h2
  iexact H2

/-- The body's tokens from what was dealt. -/
theorem tokens_intro (c : Dev nD) : iprop(linear (F := F) c ∗ Pipeline.launchCred O₀ c) ⊢ tokens (F := F) c := by
  refine (sep_mono_right (creds c)).trans ?_
  unfold linear tokens places toSend toRecv cpTok
  rw [sep_opt, sep_own]
  simp only [bigSep_sep']
  iintro ⟨⟨⟨Hb, ⟨A0, A1, A2, A3⟩, AS, AR⟩, HB, ⟨C0, C1, C2, C3⟩, DS, DR⟩, Hc, HC⟩
  isplitl [HB]; · iexact HB
  isplitl [DS DR AS]
  · isplitl [DS]; · iexact DS
    isplitl [DR] <;> iassumption
  isplitl [AR HC]
  · isplitl [AR] <;> iassumption
  isplitl [A0 A1 A2 A3 C0 C1 C2 C3]
  · iframe
  isplitl [Hb] <;> iassumption

/-! ## The conditions of the launch -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  have hl : (levAts L lv : sProp 𝕄) ⊢ lvAll (F := F) := by unfold lvAll; exact BI.Entails.refl _
  have hu : Pipeline.unscopedRestP Pipeline.Prefetch.none cfg0.spec c (fun b => m ((c : Thread nD τ).loc b))
      ⊢ oP (F := F) c Finset.univ (m ((c : Thread nD τ).loc main_v1)) := by
    rw [Pipeline.unscopedRestP_none]
    exact Entails.of_eq (unscopedRest0_eq c (fun b => m ((c : Thread nD τ).loc b)))
  unfold start G' known recs
  iintro ⟨Hu, Hl, Hc, -, ⟨%K, ⟨HI, HR⟩, HG⟩⟩
  imodintro
  isplitl
  · isplitr [Hu]
    · iexists K
      isplitl [HI HR Hl]
      · isplitl [HI]; · iexact HI
        isplitl [HR]; · iexact HR
        iapply hl
        iexact Hl
      iapply (tokens_intro c)
      isplitl [HG] <;> iassumption
    iexists _
    iapply hu
    iexact Hu
  iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs] <;> iassumption

theorem phi1_exit (c : Dev nD) :
    (dats m ρ 0 c).Φ (Fin.last cfg0.N) ⊢ iprop((unscopedSems0 c ∗ oP c Finset.univ (OUT m ρ c)) ∗ Pipeline.ownSems0 osem c ∗ Pipeline.scopedRest cfg0.spec c) := by
  rw [show (dats m ρ 0 c).Φ (Fin.last cfg0.N) = Φ₁ m ρ c from rfl, scopedRest0_eq, own_sems, bar_sems, sep_own]
  unfold Φ₁ scratch zeros zeroR
  iintro ⟨Hr, ⟨Hb, Hc, HS, HR⟩, HO⟩
  isplitl [Hb HO]
  · isplitl [Hb] <;> iassumption
  isplitl [Hc HS HR]
  · isplitl [Hc]; · iexact Hc
    isplitl [HS] <;> iassumption
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

theorem out_read (c : Dev nD) (s' : Phys nD τ sig (Elt F)) :
    iprop((unscopedSems0 c ∗ oP c Finset.univ (OUT m ρ c)) ∗ emp ∗ SI s')
      ⊢ |={Set.univ}=> iprop(⌜(∀ sm : SemLoc sig, sm.isScoped .tc = false → s'.mem.sem ((c.tc : Thread nD τ), sm) = 0)
          ∧ s'.mem.mem ((c : Thread nD τ).loc main_v1) = OUT m ρ c⌝ ∗ (SI s' : sProp 𝕄)) := by
  iintro ⟨⟨Hu, HO⟩, -, HSI⟩
  icombine HSI HO gives %h
  imod (Pipeline.unscopedSems0_read (X := unscopedSems0 c) (c := c) fupd_intro s') $$ [Hu HSI] with ⟨%hs, HSI⟩
  · isplitl [Hu] <;> iassumption
  imodintro
  isplitr
  · ipureintro
    exact ⟨hs, Buf.eq_of_forall_mem_univ h⟩
  iexact HSI

/-! ## The run -/

/-- What the run leaves: the result computed, the arguments as they were. -/
def Ends (r : PUnit × MemSt nD τ sig (Elt F)) : Prop := ∀ c : Dev nD,
  r.2.mem ((c : Thread nD τ).loc main_v1) = OUT m ρ c
    ∧ r.2.mem ((c : Thread nD τ).loc main_arg0) = m ((c : Thread nD τ).loc main_arg0)
    ∧ r.2.mem ((c : Thread nD τ).loc main_arg1) = m ((c : Thread nD τ).loc main_arg1)

theorem arg_end (c : Dev nD) (w : Fin 2) : (dats m ρ 0 c).arrAt w cfg0.N = (s₀ m ρ).mem ((cfg0.win w).arr.view.loc (c : Thread nD τ)) :=
  (dats (F := F) m ρ 0 c).arrAt_in w (by fin_cases w <;> rfl) _

set_option maxRecDepth 8000 in
theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0)
    (hshare := fun c w => by unfold Dat.share; split <;> rfl)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := fun c => iprop(unscopedSems0 c ∗ oP c Finset.univ (OUT m ρ c))) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_v1) = OUT m ρ c)
    (hY := out_read m ρ)
    (hQ := fun _ h hs => ⟨fun c => ⟨(h c).2.2.2, ((h c).1 0).trans (arg_end m ρ c 0), ((h c).1 1).trans (arg_end m ρ c 1)⟩,
      sem_eq_zero hs fun c => (h c).2.2.1⟩)

end Cert.Proof.Run
-- ==== Proof.Frames.lean ====
/-
The frames: every program runs to its end, leaves its arguments, and every counter ends at zero.
-/
module

public import proofs.«01_k».proof.Defs
public import proofs.«01_k».proof.Proof.Launch
public import proofs.«01_k».proof.Proof.Gen.Kernel
public import proofs.«01_k».proof.Proof.Gen.ReferenceIdeal.Run

@[expose] public section

noncomputable section

namespace Cert.Proof

open Idealize.ShloMosaic Idealize.SL.Sem

local instance : Cert.Kernel.Facts := Cert.Kernel.Gen.facts
local instance : Cert.KernelIdeal.Facts := Cert.KernelIdeal.Gen.facts
local instance : Cert.ReferenceIdeal.Facts := Cert.ReferenceIdeal.Gen.facts

/-- The kernel's frame over any float values. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => (h.1 c).2, h.2⟩) (Run.run_main m ρ)

theorem frame_ideal : Cert.quiescent_KernelIdeal := fun m ρ _ => frame_any (F := Ideal) m ρ

/-- Both programs have the same bodies. -/
theorem defs_same : Cert.Kernel.defs₀ (F := Bits) = Cert.KernelIdeal.defs₀ (F := Bits) := by
  unfold Cert.Kernel.defs₀ Cert.KernelIdeal.defs₀
  refine congrArg (Defs.onTc (Λ := Cert.KernelIdeal.Λ₀)) (funext fun l => funext fun a => ?_)
  match l, a with
  | 0, (t, s) => rfl

theorem frame_kernel : Cert.quiescent_Kernel := fun m ρ _ => by
  unfold Cert.Kernel.defs
  rw [defs_same]
  exact frame_any (F := Bits) m ρ

theorem frame_reference : Cert.quiescent_ReferenceIdeal := fun m ρ _ =>
  (θ_run Cert.ReferenceIdeal.defs _ _).mono
    (fun _ h => ⟨fun c => (h c).2, funext fun g => by
      rcases g with ⟨⟨_, _ | _ | _⟩, q | q⟩ <;> exact q.elim0⟩)
    (Cert.ReferenceIdeal.Value.run (F := Ideal) m ρ)

end Cert.Proof

end
-- ==== Proof.Payloads.lean ====
/-
What each step of the body computes, read at one element over the extended reals.
-/
module

public import proofs.«01_k».proof.Proof.Gen.KernelIdeal.Skeleton
public import Idealize.ShloMosaic.Lib.Pointwise
public import Idealize.ShloMosaic.Lib.IdealHost

@[expose] public section

set_option maxRecDepth 16384

noncomputable section

namespace Cert.Proof.Softmax

open Cert.KernelIdeal Cert.KernelIdeal.Gen
open Idealize.ShloMosaic

/-- The word a maximum starts from is the least extended real. -/
theorem least_word : Ideal.ofBits .f32 0xFF800000#32 = ⊥ := by simp [Ideal.ofBits, Ideal.ieee]

variable (x : FVec Ideal S256x512 .bf16) (w : FVec Ideal S512x4096 .bf16) (v : FVec Ideal S256x4096 .f32)
variable (M S : FVec Ideal S4x256x1 .f32) (a b : FVec Ideal S256x1 .f32)
variable (r : Fin 256) (j : Fin 4096)

theorem product_at : k0_pay1 (F := Ideal) x w (ix2 r j) = ∑ k : Fin 512, x (ix2 r k) * w (ix2 k j) := by
  pointwise [k0_pay1]

theorem kept_at (u : Fin 1) : k0_pay3 (F := Ideal) (k0_pay2 x w) (ix3 u r j) = k0_pay1 (F := Ideal) x w (ix2 r j) := by
  pointwise [k0_pay3, k0_pay2]

theorem rowMax_at (u : Fin 1) : k0_pay4 (F := Ideal) v (ix2 r u) = Finset.univ.fold max ⊥ fun k : Fin 4096 => v (ix2 r k) := by
  pointwise [k0_pay4]
  rw [least_word]

theorem weight_at (u : Fin 1) : k0_pay6 (F := Ideal) v (ix3 u r j) = Ideal.exp (v (ix2 r j) - k0_pay4 (F := Ideal) v (ix2 r 0)) := by
  pointwise [k0_pay6, k0_pay5]

theorem maxStat_at (u u' : Fin 1) : k0_pay7 (F := Ideal) v (ix3 u r u') = k0_pay4 (F := Ideal) v (ix2 r 0) := by
  pointwise [k0_pay7]

theorem sumStat_at (u u' : Fin 1) : k0_pay8 (F := Ideal) v (ix3 u r u')
    = ∑ k : Fin 4096, Ideal.exp (v (ix2 r k) - k0_pay4 (F := Ideal) v (ix2 r 0)) := by
  pointwise [k0_pay8, k0_pay5]

theorem allMax_at (u : Fin 1) : k0_pay9 (F := Ideal) M (ix2 r u) = Finset.univ.fold max ⊥ fun s : Fin 4 => M (ix3 s r 0) := by
  pointwise [k0_pay9]
  rw [least_word]

theorem scale_at (u : Fin 1) : k0_pay10 (F := Ideal) M S (ix2 r u)
    = Ideal.div 1 (∑ s : Fin 4, S (ix3 s r 0) * Ideal.exp (M (ix3 s r 0) - k0_pay9 (F := Ideal) M (ix2 r 0))) := by
  pointwise [k0_pay10]

theorem own_at (g : FVec Ideal S1x256x4096 .f32) (u : Fin 1) : k0_pay12 (k0_pay11 (F := Ideal) a M S g) (ix3 u r j)
    = g (ix3 0 r j) * (Ideal.exp (a (ix2 r 0) - k0_pay9 (F := Ideal) M (ix2 r 0)) * k0_pay10 (F := Ideal) M S (ix2 r 0)) := by
  pointwise [k0_pay12, k0_pay11]

theorem other_at (g : FVec Ideal S1x256x4096 .bf16) (u : Fin 1) : k0_pay14 (k0_pay13 (F := Ideal) a b g) (ix3 u r j)
    = Ideal.exp (g (ix3 0 r j) - a (ix2 r 0)) * b (ix2 r 0) := by
  pointwise [k0_pay14, k0_pay13]

end Cert.Proof.Softmax

end
-- ==== Proof.Softmax.lean ====
/-
The softmax of a row from the maxima and sums of its four parts, over the extended reals.
-/
module

public import Idealize.ShloMosaic.PureOps.Ideal
public import Mathlib.Logic.Equiv.Fin.Basic
public import Mathlib.Algebra.BigOperators.Fin

@[expose] public section

noncomputable section

namespace Cert.Proof.Softmax

open Idealize.ShloMosaic

/-! ## Sums and maxima of reals -/

theorem sum_real {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem exp_sub (a b : ℝ) : Ideal.exp ((a : EReal) - (b : EReal)) = (Real.exp (a - b) : EReal) := by
  rw [← EReal.coe_sub]
  rfl

/-- The greatest entry of a list, `-∞` for none. -/
def top {n : ℕ} (g : Fin n → EReal) : EReal := Finset.univ.fold max ⊥ g

theorem top_eq_sup {n : ℕ} (g : Fin n → EReal) : top g = Finset.univ.sup g := rfl

theorem top_real {n : ℕ} [NeZero n] (g : Fin n → EReal) (h : ∀ i, ∃ a : ℝ, g i = a) : ∃ a : ℝ, top g = a := by
  obtain ⟨i, -, hi⟩ := Finset.exists_mem_eq_sup (Finset.univ : Finset (Fin n)) ⟨0, Finset.mem_univ _⟩ g
  obtain ⟨a, ha⟩ := h i
  exact ⟨a, by rw [top_eq_sup, hi, ha]⟩

/-! ## The four parts of a row -/

/-- Column `k` of part `s`. -/
def col (s : Fin 4) (k : Fin 4096) : Fin 16384 := ⟨4096 * s.val + k.val, by omega⟩

theorem exists_col (c : Fin 16384) : ∃ s k, c = col s k :=
  ⟨⟨c.val / 4096, by omega⟩, ⟨c.val % 4096, by omega⟩, Fin.ext (by show c.val = 4096 * (c.val / 4096) + c.val % 4096; omega)⟩

theorem top_parts (g : Fin 16384 → EReal) : top g = top fun s => top fun k => g (col s k) := by
  simp only [top_eq_sup]
  refine le_antisymm (Finset.sup_le fun c _ => ?_) (Finset.sup_le fun s _ => Finset.sup_le fun k _ => Finset.le_sup (f := g) (Finset.mem_univ _))
  obtain ⟨s, k, rfl⟩ := exists_col c
  exact (Finset.le_sup (f := fun k => g (col s k)) (Finset.mem_univ k)).trans
    (Finset.le_sup (f := fun s => Finset.univ.sup fun k => g (col s k)) (Finset.mem_univ s))

theorem sum_parts (f : Fin 16384 → ℝ) : ∑ c, f c = ∑ s, ∑ k, f (col s k) := by
  rw [← Fintype.sum_prod_type']
  refine (Fintype.sum_equiv (finProdFinEquiv (m := 4) (n := 4096)) _ _ fun p => congrArg f (Fin.ext ?_)).symm
  show 4096 * p.1.val + p.2.val = p.2.val + 4096 * p.1.val
  omega

/-! ## The softmax of a row -/

/-- Entry `c` of the softmax of the row `g`. -/
def soft (g : Fin 16384 → EReal) (c : Fin 16384) : EReal :=
  Ideal.div (Ideal.exp (g c - top g)) (∑ d, Ideal.exp (g d - top g))

/-- The maximum of part `s`. -/
def partMax (g : Fin 16384 → EReal) (s : Fin 4) : EReal := top fun k => g (col s k)

/-- The sum of part `s`, relative to its own maximum. -/
def partSum (g : Fin 16384 → EReal) (s : Fin 4) : EReal := ∑ k, Ideal.exp (g (col s k) - partMax g s)

/-- What every entry is multiplied by. -/
def scale (g : Fin 16384 → EReal) : EReal :=
  Ideal.div 1 (∑ s, partSum g s * Ideal.exp (partMax g s - top (partMax g)))

variable (l : Fin 16384 → ℝ)

/-- A row of reals: the four maxima, the whole maximum and the whole sum are reals. -/
theorem parts_real : ∃ (μ : Fin 4 → ℝ) (M : ℝ), (∀ s, partMax (fun c => (l c : EReal)) s = μ s)
    ∧ top (partMax fun c => (l c : EReal)) = M ∧ top (fun c => (l c : EReal)) = M := by
  choose μ hμ using fun s => top_real (fun k => ((l (col s k) : ℝ) : EReal)) fun k => ⟨_, rfl⟩
  obtain ⟨M, hM⟩ := top_real (partMax fun c => (l c : EReal)) fun s => ⟨μ s, hμ s⟩
  exact ⟨μ, M, hμ, hM, (top_parts _).trans hM⟩

theorem weights_pos (M : ℝ) : 0 < ∑ c, Real.exp (l c - M) :=
  Finset.sum_pos (fun _ _ => Real.exp_pos _) ⟨0, Finset.mem_univ _⟩

theorem div_real {a T : ℝ} (hT : 0 < T) : Ideal.div (a : EReal) (T : EReal) = ((a / T : ℝ) : EReal) := by
  unfold Ideal.div
  rw [if_neg (by exact_mod_cast hT.ne'), ← EReal.coe_inv, ← EReal.coe_mul, div_eq_mul_inv]

theorem soft_real {M : ℝ} (hM : top (fun c => (l c : EReal)) = M) (c : Fin 16384) :
    soft (fun c => (l c : EReal)) c = ((Real.exp (l c - M) / ∑ d, Real.exp (l d - M) : ℝ) : EReal) := by
  unfold soft
  rw [hM]
  simp only [exp_sub]
  rw [sum_real, div_real (weights_pos l M)]

theorem scale_real {μ : Fin 4 → ℝ} {M : ℝ} (hμ : ∀ s, partMax (fun c => (l c : EReal)) s = μ s)
    (hM : top (partMax fun c => (l c : EReal)) = M) :
    scale (fun c => (l c : EReal)) = ((1 / ∑ d, Real.exp (l d - M) : ℝ) : EReal) := by
  have h : (∑ s, partSum (fun c => (l c : EReal)) s * Ideal.exp (partMax (fun c => (l c : EReal)) s - top (partMax fun c => (l c : EReal))))
      = ((∑ d, Real.exp (l d - M) : ℝ) : EReal) := by
    unfold partSum
    simp only [hM, hμ, exp_sub, sum_real, ← EReal.coe_mul]
    refine congrArg _ ?_
    rw [sum_parts]
    refine Finset.sum_congr rfl fun s _ => ?_
    rw [Finset.sum_mul]
    refine Finset.sum_congr rfl fun k _ => ?_
    rw [← Real.exp_add]
    exact congrArg Real.exp (by ring)
  unfold scale
  rw [h]
  exact div_real (a := 1) (weights_pos l M)

/-- An entry of another device's part, from its logit. -/
theorem soft_other (s : Fin 4) (k : Fin 4096) :
    Ideal.exp ((l (col s k) : EReal) - top (partMax fun c => (l c : EReal))) * scale (fun c => (l c : EReal))
      = soft (fun c => (l c : EReal)) (col s k) := by
  obtain ⟨μ, M, hμ, hM, hT⟩ := parts_real l
  rw [soft_real l hT, scale_real l hμ hM, hM, exp_sub, ← EReal.coe_mul]
  refine congrArg _ ?_
  ring

/-- An entry of the device's own part, from its weight relative to the part's maximum. -/
theorem soft_own (s : Fin 4) (k : Fin 4096) :
    Ideal.exp ((l (col s k) : EReal) - partMax (fun c => (l c : EReal)) s)
        * (Ideal.exp (partMax (fun c => (l c : EReal)) s - top (partMax fun c => (l c : EReal))) * scale (fun c => (l c : EReal)))
      = soft (fun c => (l c : EReal)) (col s k) := by
  obtain ⟨μ, M, hμ, hM, hT⟩ := parts_real l
  rw [soft_real l hT, scale_real l hμ hM, hM, hμ, exp_sub, exp_sub, ← EReal.coe_mul, ← EReal.coe_mul]
  refine congrArg _ ?_
  rw [← mul_assoc, ← Real.exp_add, show l (col s k) - μ s + (μ s - M) = l (col s k) - M by ring]
  ring

end Cert.Proof.Softmax

end
-- ==== Proof.Value.lean ====
/-
The result of the run over the extended reals: on every device the softmax of the whole product.
-/
module

public import proofs.«01_k».proof.Proof.Contents
public import proofs.«01_k».proof.Proof.Payloads
public import proofs.«01_k».proof.Proof.Softmax

@[expose] public section

noncomputable section

namespace Cert.Proof.Result

open Cert.KernelIdeal Cert.KernelIdeal.Gen
open Idealize.ShloMosaic
open Idealize.ShloMosaic.TcCoe
open Cert.Proof.Softmax Cert.Proof.Run

set_option maxRecDepth 16384

variable (m : (ℓ : Loc nD τ sig) → Buf (Elt Ideal) ℓ) (ρ : Dev nD → PrngReg)
variable (X : Fin 256 → Fin 512 → ℝ) (W : Fin 512 → Fin 16384 → ℝ)

/-- The logit of row `r` and column `c`. -/
def logit (r : Fin 256) (c : Fin 16384) : ℝ := ∑ k, X r k * W k c

/-- Row `r` of the logits. -/
abbrev logitRow (r : Fin 256) : Fin 16384 → EReal := fun c => (logit X W r c : EReal)

/-- The part of the columns that a device holds. -/
def onPart (d : Dev nD) : Fin 4 := ⟨yC d, yC_lt d⟩

/-- Every device holds the rows of `X` and its own columns of `W`. -/
def Holds : Prop := (∀ (d : Dev nD) (r : Fin 256) (k : Fin 512), xIn m ρ d (ix2 r k) = (X r k : EReal))
  ∧ ∀ (d : Dev nD) (k : Fin 512) (j : Fin 4096), wIn m ρ d (ix2 k j) = (W k (col (onPart d) j) : EReal)

theorem onPart_onRing : ∀ (c : Dev nD) (s : Fin 4), onPart (onRing c s.val) = s := by decide +kernel

theorem onPart_org : ∀ (c : Dev nD) (s : Fin 4) (e : Fin 8), onPart (org c s.val e.val) = s := by decide +kernel

variable {m ρ X W}

theorem logits_at (h : Holds m ρ X W) (d : Dev nD) (r : Fin 256) (j : Fin 4096) :
    lgt m ρ d (ix2 r j) = logitRow X W r (col (onPart d) j) := by
  unfold lgt
  refine (product_at _ _ r j).trans ?_
  unfold logitRow logit
  rw [← sum_real]
  refine Finset.sum_congr rfl fun k _ => ?_
  rw [h.1, h.2, ← EReal.coe_mul]

theorem rowMax_part (h : Holds m ρ X W) (d : Dev nD) (r : Fin 256) :
    k0_pay4 (F := Ideal) (lgt m ρ d) (ix2 r 0) = partMax (logitRow X W r) (onPart d) := by
  rw [rowMax_at]
  exact congrArg top (funext fun k => logits_at h d r k)

/-- The maxima a device reads are those of the four parts. -/
theorem maxs_at (h : Holds m ρ X W) (c : Dev nD) (s : Fin 4) (r : Fin 256) :
    maxs m ρ c (ix3 s r 0) = partMax (logitRow X W r) s := by
  have e : maxs m ρ c (ix3 s r 0) = k0_pay7 (F := Ideal) (lgt m ρ (onRing c s.val)) (ix3 0 r 0) := by
    show k0_pay7 (F := Ideal) (lgt m ρ (onRing c s.val)) (statIn (statAt 0 (ix3 s r 0))) = _
    exact congrArg _ (funext fun a => match a with | 0 => rfl | 1 => rfl | 2 => rfl)
  rw [e, maxStat_at, rowMax_part h, onPart_onRing]

/-- The sums a device reads are those of the four parts. -/
theorem sums_at (h : Holds m ρ X W) (c : Dev nD) (s : Fin 4) (r : Fin 256) :
    sums m ρ c (ix3 s r 0) = partSum (logitRow X W r) s := by
  have e : sums m ρ c (ix3 s r 0) = k0_pay8 (F := Ideal) (lgt m ρ (onRing c s.val)) (ix3 0 r 0) := by
    show k0_pay8 (F := Ideal) (lgt m ρ (onRing c s.val)) (statIn (statAt 1 (ix3 s r 0))) = _
    exact congrArg _ (funext fun a => match a with | 0 => rfl | 1 => rfl | 2 => rfl)
  rw [e, sumStat_at, rowMax_part h]
  simp only [logits_at h, onPart_onRing]
  rfl

theorem whole_max (h : Holds m ρ X W) (c : Dev nD) (r : Fin 256) :
    k0_pay9 (F := Ideal) (maxs m ρ c) (ix2 r 0) = top (partMax (logitRow X W r)) := by
  rw [allMax_at]
  exact congrArg top (funext fun s => maxs_at h c s r)

theorem whole_scale (h : Holds m ρ X W) (c : Dev nD) (r : Fin 256) :
    k0_pay10 (F := Ideal) (maxs m ρ c) (sums m ρ c) (ix2 r 0) = scale (logitRow X W r) := by
  rw [scale_at, whole_max h]
  simp only [maxs_at h, sums_at h]
  rfl

/-- A gathered logit is the logit of its part, whichever device it came from. -/
theorem gathered_at (h : Holds m ρ X W) (c : Dev nD) (s : Fin 4) (r : Fin 256) (k : Fin 4096) :
    gRow m ρ c s.val (ix3 0 r k) = logitRow X W r (col s k) := by
  have hs : s.val % 4 = s.val := Nat.mod_eq_of_lt s.isLt
  have e : gRow m ρ c s.val (ix3 0 r k)
      = k0_pay3 (F := Ideal) (k0_pay2 (xIn m ρ (org c (s.val % 4) (r.val / 32))) (wIn m ρ (org c (s.val % 4) (r.val / 32)))) (ix3 0 r k) := by
    show k0_pay3 (F := Ideal) (k0_pay2 (xIn m ρ (org c (s.val % 4) (r.val / 32))) (wIn m ρ (org c (s.val % 4) (r.val / 32))))
      (inSlot (atSlot s.val (ix3 0 r k))) = _
    rw [inSlot_atSlot]
  rw [e, kept_at, hs]
  refine (logits_at h _ r k).trans ?_
  rw [onPart_org c s ⟨r.val / 32, by omega⟩]

theorem slot_at (h : Holds m ρ X W) (c : Dev nD) (s : Fin 4) (r : Fin 256) (k : Fin 4096) :
    stRow m ρ c s.val (ix3 0 r k) = soft (logitRow X W r) (col s k) := by
  unfold stRow
  split
  · rename_i hs
    have hp : onPart c = s := Fin.ext hs.symm
    rw [own_at, weight_at, rowMax_part h, whole_max h, whole_scale h, logits_at h, hp]
    exact soft_own _ s k
  · rw [other_at, whole_max h, whole_scale h, gathered_at h]
    exact soft_other _ s k

/-- The result, element by element. -/
theorem result_at (h : Holds m ρ X W) (c : Dev nD) (r : Fin 256) (q : Fin 16384) :
    OUT m ρ c (ix2 r q) = soft (logitRow X W r) q := by
  obtain ⟨s, k, rfl⟩ := exists_col q
  have hq : (col s k).val = 4096 * s.val + k.val := rfl
  have e : OUT m ρ c (ix2 r (col s k)) = stRow m ρ c ((col s k).val / 4096 % 4) (ix3 0 r ⟨(col s k).val % 4096, by omega⟩) := by
    show stRow m ρ c ((col s k).val / 4096 % 4) (inSlot (inStage (ix2 r (col s k)))) = _
    exact congrArg _ (funext fun a => match a with | 0 => rfl | 1 => rfl | 2 => rfl)
  rw [e, show (col s k).val / 4096 % 4 = s.val by omega,
    show (⟨(col s k).val % 4096, by omega⟩ : Fin 4096) = k from Fin.ext (by show (col s k).val % 4096 = k.val; omega)]
  exact slot_at h c s r k

end Cert.Proof.Result

end
-- ==== Proof.Equal.lean ====
/-
The kernel's result is the reference's, over the extended reals, for finite arguments.
-/
module

public import proofs.«01_k».proof.Defs
public import proofs.«01_k».proof.Proof.Frames
public import proofs.«01_k».proof.Proof.Value
public import Idealize.ShloMosaic.Lib.Layout

@[expose] public section

set_option maxRecDepth 16384

noncomputable section

namespace Cert.Proof

open Idealize.ShloMosaic Idealize.ShloMosaic.TcCoe Idealize.SL.Sem
open Cert.Proof.Softmax

/-! ## The reference -/

section Reference

open Cert.ReferenceIdeal Cert.ReferenceIdeal.Gen

/-- The reference's logits. -/
def refLogits (x : FVec Ideal S256x512 .bf16) (w : FVec Ideal S512x16384 .bf16) : FVec Ideal S256x16384 .f32 :=
  Host.dotGeneral dot_S256x512_S512x16384_S256x16384_1_0_0_1_n_n none (extf .f32 x bitsLt_bf16_f32) (extf .f32 w bitsLt_bf16_f32)

/-- A column of one number per row, along every row. -/
def alongRows (v : FVec Ideal S256 .f32) : FVec Ideal S256x16384 .f32 :=
  broadcastInDim S256x16384 ![0, 1] bcast_S256x1_S256x16384_0_1 (broadcastInDim S256x1 ![0] bcast_S256_S256x1_0 v)

/-- The exponentials of the logits less their row's maximum. -/
def refWeights (d : FVec Ideal S256x16384 .f32) : FVec Ideal S256x16384 .f32 :=
  Host.exp (subf d (alongRows (Host.reduce FloatOps.maximumf d (constant S_ .f32 0xFF800000#32) reducesTo_S256x16384_S256_d1 h_S_)))

/-- The weights divided by their row's sum. -/
def refOut (e : FVec Ideal S256x16384 .f32) : FVec Ideal S256x16384 .f32 :=
  Host.divf e (alongRows (Host.reduceAdd e (constant S_ .f32 0x00000000#32) reducesTo_S256x16384_S256_d1 h_S_))

theorem refLogits_at (x : FVec Ideal S256x512 .bf16) (w : FVec Ideal S512x16384 .bf16) (r : Fin 256) (q : Fin 16384) :
    refLogits x w (ix2 r q) = ∑ k : Fin 512, x (ix2 r k) * w (ix2 k q) := by
  pointwise [refLogits]

theorem refWeights_at (d : FVec Ideal S256x16384 .f32) (r : Fin 256) (q : Fin 16384) :
    refWeights d (ix2 r q) = Ideal.exp (d (ix2 r q) - top fun c : Fin 16384 => d (ix2 r c)) := by
  pointwise [refWeights, alongRows]
  rw [least_word]
  rfl

theorem refOut_at (e : FVec Ideal S256x16384 .f32) (r : Fin 256) (q : Fin 16384) :
    refOut e (ix2 r q) = Ideal.div (e (ix2 r q)) (∑ c : Fin 16384, e (ix2 r c)) := by
  pointwise [refOut, alongRows]

/-- The reference computes the softmax of each row of the product. -/
theorem reference_at (x : FVec Ideal S256x512 .bf16) (w : FVec Ideal S512x16384 .bf16) (r : Fin 256) (q : Fin 16384) :
    refOut (refWeights (refLogits x w)) (ix2 r q) = soft (fun c => ∑ k : Fin 512, x (ix2 r k) * w (ix2 k c)) q := by
  rw [refOut_at]
  simp only [refWeights_at, refLogits_at]
  rfl

end Reference

/-! ## Finite arguments -/

theorem greatest_word : Ideal.ofBits .bf16 0x7F80#16 = ⊤ := by simp [Ideal.ofBits, Ideal.ieee]

/-- A number of magnitude below infinity is a real. -/
theorem real_of_below (a : EReal) (h : Ideal.cmp .olt (max a (-a)) ⊤ = 1#1) : ∃ b : ℝ, a = b := by
  have h' : max a (-a) < ⊤ := by
    by_contra hn
    unfold Ideal.cmp at h
    simp [hn] at h
  induction a using EReal.rec with
  | bot => simp at h'
  | coe b => exact ⟨b, rfl⟩
  | top => simp at h'

local instance : Cert.Kernel.Facts := Cert.Kernel.Gen.facts
local instance : Cert.KernelIdeal.Facts := Cert.KernelIdeal.Gen.facts
local instance : Cert.ReferenceIdeal.Facts := Cert.ReferenceIdeal.Gen.facts

/-- The shapes that the condition of finite arguments broadcasts. -/
theorem pre_facts : Cert.Pre_finite_inputs_KernelIdeal.Facts := ⟨by decide, by decide⟩
/-- The same for the whole arrays. -/
theorem pre_facts_whole : Cert.Pre_finite_inputs_ReferenceIdeal.Facts := ⟨by decide, by decide⟩

local instance : Cert.Pre_finite_inputs_KernelIdeal.Facts := pre_facts
local instance : Cert.Pre_finite_inputs_ReferenceIdeal.Facts := pre_facts_whole

section Inputs

open Cert.KernelIdeal Cert.KernelIdeal.Gen

variable {m : (ℓ : Loc nD τ sig) → Buf (Elt Ideal) ℓ} (ρ : Dev nD → PrngReg)

/-- The rows on device `c`. -/
def argX (m : (ℓ : Loc nD τ sig) → Buf (Elt Ideal) ℓ) (c : Dev nD) : S256x512.Idx → EReal := m ((c : Thread nD τ).loc main_arg0)
/-- The columns on device `c`. -/
def argW (m : (ℓ : Loc nD τ sig) → Buf (Elt Ideal) ℓ) (c : Dev nD) : S512x4096.Idx → EReal := m ((c : Thread nD τ).loc main_arg1)

theorem finite_x (h : Cert.Pre_KernelIdeal_finite_inputs_KernelIdeal m) (c : Dev nD) (i : S256x512.Idx) :
    ∃ b : ℝ, argX m c i = b := by
  have e := congrFun (h c).1 i
  refine real_of_below _ ?_
  rw [← greatest_word]
  exact e

theorem finite_w (h : Cert.Pre_KernelIdeal_finite_inputs_KernelIdeal m) (c : Dev nD) (i : S512x4096.Idx) :
    ∃ b : ℝ, argW m c i = b := by
  have e := congrFun (h c).2 i
  refine real_of_below _ ?_
  rw [← greatest_word]
  exact e

/-- The kernel reads its first argument whole. -/
theorem xIn_at (c : Dev nD) (i : S256x512.Idx) :
    Run.xIn m ρ c i = argX m c i := by
  unfold Run.xIn
  rw [View.read_apply]
  refine congrArg (argX m c) (funext fun a => Fin.ext ?_)
  match a with
  | 0 => show 0 * 256 + 1 * (i 0).val = (i 0).val; omega
  | 1 => show 0 * 512 + 1 * (i 1).val = (i 1).val; omega

/-- The kernel reads its own part of the second argument whole. -/
theorem wIn_at (c : Dev nD) (i : S512x4096.Idx) :
    Run.wIn m ρ c i = argW m c i := by
  unfold Run.wIn
  rw [View.read_apply]
  refine congrArg (argW m c) (funext fun a => Fin.ext ?_)
  match a with
  | 0 => show 0 * 512 + 1 * (i 0).val = (i 0).val; omega
  | 1 => show 0 * 4096 + 1 * (i 1).val = (i 1).val; omega

end Inputs

/-! ## The claim -/

theorem block_at : ∀ c : Dev Cert.KernelIdeal.nD,
    (Layout.meshBlock [2, 4, 4] ![[], [1]] c (b := (0 : Fin 2))).val = 0
      ∧ (Layout.meshBlock [2, 4, 4] ![[], [1]] c (b := (1 : Fin 2))).val = Run.yC c := by
  decide +kernel

/-- The columns of device `c`, read in the whole array. -/
theorem part_at (w : Cert.ReferenceIdeal.S512x16384.Idx → EReal) (c : Dev Cert.KernelIdeal.nD) (k : Fin 512) (j : Fin 4096) :
    (Layout.blockN ⟨2, ![512, 4096]⟩ ⟨2, ![512, 16384]⟩ (Layout.meshBlock [2, 4, 4] ![[], [1]] c) w : Cert.KernelIdeal.S512x4096.Idx → EReal) (ix2 k j)
      = w (ix2 k (col (Result.onPart c) j)) := by
  rw [Layout.blockN_apply]
  refine congrArg w (funext fun a => Fin.ext ?_)
  rw [Layout.TilesN.idx_val]
  match a with
  | 0 => show (Layout.meshBlock [2, 4, 4] ![[], [1]] c (b := (0 : Fin 2))).val * 512 + k.val = k.val; rw [(block_at c).1]; omega
  | 1 =>
    show (Layout.meshBlock [2, 4, 4] ![[], [1]] c (b := (1 : Fin 2))).val * 4096 + j.val = 4096 * Run.yC c + j.val
    rw [(block_at c).2]; omega

/-- Every part of the columns is on some device. -/
theorem part_held (s : Fin 4) : ∃ c : Dev Cert.KernelIdeal.nD, Result.onPart c = s := by revert s; decide +kernel

theorem equal : Cert.algebraic_KernelIdeal_ReferenceIdeal_pre_finite_inputs_KernelIdeal := by
  intro m g m' g' hpre hargs
  let x : Cert.ReferenceIdeal.S256x512.Idx → EReal :=
    m' (((0 : Dev Cert.ReferenceIdeal.nD).tc : Thread Cert.ReferenceIdeal.nD Cert.ReferenceIdeal.τ).loc Cert.ReferenceIdeal.main_arg0)
  let w : Cert.ReferenceIdeal.S512x16384.Idx → EReal :=
    m' (((0 : Dev Cert.ReferenceIdeal.nD).tc : Thread Cert.ReferenceIdeal.nD Cert.ReferenceIdeal.τ).loc Cert.ReferenceIdeal.main_arg1)
  have hx : ∀ (c : Dev Cert.KernelIdeal.nD) (r : Fin 256) (k : Fin 512), argX m c (ix2 r k) = x (ix2 r k) :=
    fun c r k => congrFun (hargs c).1 (ix2 r k)
  have hw : ∀ (c : Dev Cert.KernelIdeal.nD) (k : Fin 512) (j : Fin 4096), argW m c (ix2 k j) = w (ix2 k (col (Result.onPart c) j)) :=
    fun c k j => (congrFun (hargs c).2 (ix2 k j)).trans (part_at w c k j)
  have rx : ∀ (r : Fin 256) (k : Fin 512), ∃ b : ℝ, x (ix2 r k) = b := fun r k => by
    rw [← hx 0]
    exact finite_x hpre 0 _
  have rw' : ∀ (k : Fin 512) (q : Fin 16384), ∃ b : ℝ, w (ix2 k q) = b := fun k q => by
    obtain ⟨s, j, rfl⟩ := exists_col q
    obtain ⟨c, rfl⟩ := part_held s
    rw [← hw]
    exact finite_w hpre c _
  choose X hX using rx
  choose W hW using rw'
  have hold : Result.Holds m g X W :=
    ⟨fun d r k => (xIn_at g d _).trans ((hx d r k).trans (hX r k)), fun d k j => (wIn_at g d _).trans ((hw d k j).trans (hW k _))⟩
  have same : ∀ c : Dev Cert.KernelIdeal.nD, Run.OUT m g c = refOut (refWeights (refLogits x w)) := fun c => by
    funext i
    obtain ⟨r, p, rfl⟩ : ∃ (r : Fin 256) (p : Fin 16384), i = ix2 r p := ⟨i 0, i 1, eq_ix2 i⟩
    refine (Result.result_at hold c r p).trans ((reference_at x w r p).trans ?_).symm
    refine congrArg (fun f => soft f p) (funext fun q => ?_)
    show _ = (Result.logit X W r q : EReal)
    unfold Result.logit
    rw [← sum_real]
    exact Finset.sum_congr rfl fun k _ => by rw [hX, hW, EReal.coe_mul]
  exact ⟨refOut (refWeights (refLogits x w)),
    (θ_run Cert.KernelIdeal.defs _ _).mono (fun _ h c => ⟨(h.1 c).1.trans (same c), (h.1 c).2⟩) (Run.run_main m g),
    (θ_run Cert.ReferenceIdeal.defs _ _).mono (fun _ h => h 0) (Cert.ReferenceIdeal.Value.run (F := Ideal) m' g')⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Equal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  pre_facts, pre_facts_whole, frame_kernel, frame_ideal, fun m g _ => frame_ideal m g trivial, frame_reference,
  fun m g _ => frame_reference m g trivial, trivial, equal⟩

end Cert.Proof

end
